-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![2048, 2048]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![2048, 2048]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 2048]⟩ ⟨2, ![2048, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S512x2048 : Shape := ⟨2, ![512, 2048]⟩
abbrev S4x512x1024 : Shape := ⟨3, ![4, 512, 1024]⟩
abbrev S3x4 : Shape := ⟨2, ![3, 4]⟩
abbrev S_ : Shape := ⟨0, ![]⟩
abbrev S512x512 : Shape := ⟨2, ![512, 512]⟩
abbrev S512x1024 : Shape := ⟨2, ![512, 1024]⟩
abbrev S1x512x1024 : Shape := ⟨3, ![1, 512, 1024]⟩
abbrev S1x1 : Shape := ⟨2, ![1, 1]⟩
abbrev S1x128x1024 : Shape := ⟨3, ![1, 128, 1024]⟩
abbrev S128x1024 : Shape := ⟨2, ![128, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x512, .f32⟩
  | .hbm, ⟨1, _⟩ => ⟨S512x2048, .f32⟩
  | .hbm, ⟨2, _⟩ => ⟨S512x2048, .f32⟩
  | .local _ .vmem, ⟨0, _⟩ => ⟨S2048x512, .f32⟩
  | .local _ .vmem, ⟨1, _⟩ => ⟨S512x2048, .f32⟩
  | .local _ .vmem, ⟨2, _⟩ => ⟨S512x2048, .f32⟩
  | .local _ .vmem, ⟨3, _⟩ => ⟨S4x512x1024, .f32⟩
  | .local _ .vmem, ⟨4, _⟩ => ⟨S4x512x1024, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  (ofTc nBuf bufTy 1 51 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c512_i32 : BitVec 32 := 512#32
  let v13 : BitVec 32 := Scalar.muli v5 c512_i32
  let v14 : Index := Scalar.indexCast v13
  let c0 : Index := 0#32
  ![v14.toNat, 0]
def k0_off2 (d0 : Dev nD) (c1_i32_3 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.addi v2 c1_i32_3
  let c4_i32_4 : BitVec 32 := 4#32
  let v7 : BitVec 32 := Scalar.remsi v6 c4_i32_4
  let c512_i32_15 : BitVec 32 := 512#32
  let v23 : BitVec 32 := Scalar.muli v7 c512_i32_15
  let v24 : Index := Scalar.indexCast v23
  let c0_16 : Index := 0#32
  ![v24.toNat, 0]
def k0_dev3 (d0 : Dev nD) : Nat :=
  let c0_i32_29 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_28 : BitVec 32 := 1#32
  let v33 : BitVec 32 := Scalar.muli v7 c1_i32_28
  let v34 : BitVec 32 := Scalar.addi c0_i32_29 v33
  v34.toNat
def k0_dev4 (d0 : Dev nD) : Nat :=
  let c0_i32_41 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_40 : BitVec 32 := 1#32
  let v43 : BitVec 32 := Scalar.muli v5 c1_i32_40
  let v44 : BitVec 32 := Scalar.addi c0_i32_41 v43
  v44.toNat
def k0_dev5 (d0 : Dev nD) : Nat :=
  let c0_i32_53 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_52 : BitVec 32 := 1#32
  let v53 : BitVec 32 := Scalar.muli v7 c1_i32_52
  let v54 : BitVec 32 := Scalar.addi c0_i32_53 v53
  v54.toNat
def k0_dev6 (d0 : Dev nD) : Nat :=
  let c0_i32_64 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_63 : BitVec 32 := 1#32
  let v63 : BitVec 32 := Scalar.muli v5 c1_i32_63
  let v64 : BitVec 32 := Scalar.addi c0_i32_64 v63
  v64.toNat
def k0_dev7 (d0 : Dev nD) : Nat :=
  let c0_i32_76 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_75 : BitVec 32 := 1#32
  let v73 : BitVec 32 := Scalar.muli v7 c1_i32_75
  let v74 : BitVec 32 := Scalar.addi c0_i32_76 v73
  v74.toNat
def k0_dev8 (d0 : Dev nD) : Nat :=
  let c0_i32_87 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_86 : BitVec 32 := 1#32
  let v83 : BitVec 32 := Scalar.muli v5 c1_i32_86
  let v84 : BitVec 32 := Scalar.addi c0_i32_87 v83
  v84.toNat
def k0_dev9 (d0 : Dev nD) : Nat :=
  let c0_i32_98 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_97 : BitVec 32 := 1#32
  let v93 : BitVec 32 := Scalar.muli v7 c1_i32_97
  let v94 : BitVec 32 := Scalar.addi c0_i32_98 v93
  v94.toNat
def k0_dev10 (d0 : Dev nD) : Nat :=
  let c0_i32_109 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_108 : BitVec 32 := 1#32
  let v103 : BitVec 32 := Scalar.muli v5 c1_i32_108
  let v104 : BitVec 32 := Scalar.addi c0_i32_109 v103
  v104.toNat
def k0_dev11 (d0 : Dev nD) : Nat :=
  let c0_i32_145 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_144 : BitVec 32 := 1#32
  let v137 : BitVec 32 := Scalar.muli v7 c1_i32_144
  let v138 : BitVec 32 := Scalar.addi c0_i32_145 v137
  v138.toNat
def k0_dev12 (d0 : Dev nD) : Nat :=
  let c0_i32_175 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_174 : BitVec 32 := 1#32
  let v162 : BitVec 32 := Scalar.muli v5 c1_i32_174
  let v163 : BitVec 32 := Scalar.addi c0_i32_175 v162
  v163.toNat
def k0_dev13 (d0 : Dev nD) : Nat :=
  let c0_i32_204 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_203 : BitVec 32 := 1#32
  let v187 : BitVec 32 := Scalar.muli v7 c1_i32_203
  let v188 : BitVec 32 := Scalar.addi c0_i32_204 v187
  v188.toNat
def k0_dev14 (d0 : Dev nD) : Nat :=
  let c0_i32_234 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_233 : BitVec 32 := 1#32
  let v212 : BitVec 32 := Scalar.muli v5 c1_i32_233
  let v213 : BitVec 32 := Scalar.addi c0_i32_234 v212
  v213.toNat
def k0_dev15 (d0 : Dev nD) : Nat :=
  let c0_i32_263 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_262 : BitVec 32 := 1#32
  let v237 : BitVec 32 := Scalar.muli v7 c1_i32_262
  let v238 : BitVec 32 := Scalar.addi c0_i32_263 v237
  v238.toNat
def k0_dev16 (d0 : Dev nD) : Nat :=
  let c0_i32_293 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_292 : BitVec 32 := 1#32
  let v262 : BitVec 32 := Scalar.muli v5 c1_i32_292
  let v263 : BitVec 32 := Scalar.addi c0_i32_293 v262
  v263.toNat
def k0_dev17 (d0 : Dev nD) : Nat :=
  let c0_i32_322 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_321 : BitVec 32 := 1#32
  let v287 : BitVec 32 := Scalar.muli v7 c1_i32_321
  let v288 : BitVec 32 := Scalar.addi c0_i32_322 v287
  v288.toNat
def k0_dev18 (d0 : Dev nD) : Nat :=
  let c0_i32_352 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_351 : BitVec 32 := 1#32
  let v312 : BitVec 32 := Scalar.muli v5 c1_i32_351
  let v313 : BitVec 32 := Scalar.addi c0_i32_352 v312
  v313.toNat
def k0_dev19 (d0 : Dev nD) : Nat :=
  let c0_i32_395 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_394 : BitVec 32 := 1#32
  let v355 : BitVec 32 := Scalar.muli v7 c1_i32_394
  let v356 : BitVec 32 := Scalar.addi c0_i32_395 v355
  v356.toNat
def k0_dev20 (d0 : Dev nD) : Nat :=
  let c0_i32_425 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_424 : BitVec 32 := 1#32
  let v380 : BitVec 32 := Scalar.muli v5 c1_i32_424
  let v381 : BitVec 32 := Scalar.addi c0_i32_425 v380
  v381.toNat
def k0_dev21 (d0 : Dev nD) : Nat :=
  let c0_i32_455 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_454 : BitVec 32 := 1#32
  let v405 : BitVec 32 := Scalar.muli v7 c1_i32_454
  let v406 : BitVec 32 := Scalar.addi c0_i32_455 v405
  v406.toNat
def k0_dev22 (d0 : Dev nD) : Nat :=
  let c0_i32_485 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_484 : BitVec 32 := 1#32
  let v430 : BitVec 32 := Scalar.muli v5 c1_i32_484
  let v431 : BitVec 32 := Scalar.addi c0_i32_485 v430
  v431.toNat
def k0_dev23 (d0 : Dev nD) : Nat :=
  let c0_i32_515 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_514 : BitVec 32 := 1#32
  let v455 : BitVec 32 := Scalar.muli v7 c1_i32_514
  let v456 : BitVec 32 := Scalar.addi c0_i32_515 v455
  v456.toNat
def k0_dev24 (d0 : Dev nD) : Nat :=
  let c0_i32_545 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_544 : BitVec 32 := 1#32
  let v480 : BitVec 32 := Scalar.muli v5 c1_i32_544
  let v481 : BitVec 32 := Scalar.addi c0_i32_545 v480
  v481.toNat
def k0_dev25 (d0 : Dev nD) : Nat :=
  let c0_i32_575 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_574 : BitVec 32 := 1#32
  let v505 : BitVec 32 := Scalar.muli v7 c1_i32_574
  let v506 : BitVec 32 := Scalar.addi c0_i32_575 v505
  v506.toNat
def k0_dev26 (d0 : Dev nD) : Nat :=
  let c0_i32_605 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_604 : BitVec 32 := 1#32
  let v530 : BitVec 32 := Scalar.muli v5 c1_i32_604
  let v531 : BitVec 32 := Scalar.addi c0_i32_605 v530
  v531.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_610 : BitVec 32 := 512#32
  let v540 : BitVec 32 := Scalar.muli v2 c512_i32_610
  let v541 : Index := Scalar.indexCast v540
  let c0_611 : Index := 0#32
  ![v541.toNat, 0]
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Ideal.Walk.lean ====
/-
The kernel body, written once more as loops.

The printed body is one straight line of some six hundred operations: for each of three hops, for each of four
row blocks and for each of two directions, one transfer. Here the same operations are listed by running through
the eight pairs (row block, direction) with one small program per pair, and `body_eq` states that the printed
body is that listing.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Regions

@[expose] public section

noncomputable section

namespace Cert.KernelIdeal.Walk

open Cert.KernelIdeal Cert.KernelIdeal.Gen
open Idealize.ShloMosaic Idealize.ShloMosaic.TcCoe Idealize.SL.Sem

variable {F : FTy → Type} [FloatOps F]

/-- A piece of a hop: the row block `p.1` of the direction `p.2` (`false` to the next device, `true` to the one before). -/
abbrev Piece : Type := Fin 4 × Bool

/-- The pieces in the order in which the body treats them. -/
def pieces : List Piece := [(0, false), (0, true), (1, false), (1, true), (2, false), (2, true), (3, false), (3, true)]

theorem pieces_univ : (Finset.univ : Finset Piece) = pieces.toFinset := by decide
theorem pieces_nodup : pieces.Nodup := by decide

/-- The staged blocks of the two operands and of the result. -/
abbrev xM : Memref sig .tc .vmem S2048x512 .f32 := Memref.whole cc0_stg0_0
abbrev wM : Memref sig .tc .vmem S512x2048 .f32 := Memref.whole cc0_stg1_0
abbrev oM : Memref sig .tc .vmem S512x2048 .f32 := Memref.whole cc0_stg2_0

/-- The communication buffer of a direction: four slots of four row blocks. -/
def buf : Bool → Memref sig .tc .vmem S4x512x1024 .f32
  | false => Memref.whole cc0_scratch0
  | true => Memref.whole cc0_scratch1

theorem inbBlk (s j : Fin 4) : ∀ a, (![s.val, 128 * j.val, 0] : Fin 3 → Nat) a + S1x128x1024.size a ≤ S4x512x1024.size a := by
  revert s j; decide

/-- The rectangle of row block `j` of slot `s`. -/
abbrev rBlk (s j : Fin 4) : Rect S4x512x1024 := Rect.unit (s := S4x512x1024) ![s.val, 128 * j.val, 0] S1x128x1024.size (inbBlk s j)

/-- Row block `j` of slot `s`, as the transfers name it. -/
def sq (d : Bool) (s j : Fin 4) : Memref sig .tc .vmem S128x1024 .f32 :=
  ((buf d).slice (rBlk s j) (fun _ => rfl)).squeeze S128x1024 squeezes_S1x128x1024_S128x1024

theorem inbSem (h : Fin 3) (j : Fin 4) : ∀ a, (![h.val, j.val] : Fin 2 → Nat) a + S1x1.size a ≤ S3x4.size a := by
  revert h j; decide

/-- The four tables of semaphores: of a direction, the senders' (`false`) and the receivers' (`true`). -/
def semTab : Bool → Bool → DmaSems sig S3x4
  | false, false => cc0_scratch2
  | false, true => cc0_scratch3
  | true, false => cc0_scratch4
  | true, true => cc0_scratch5

/-- The semaphore of hop `h` of piece `p`: the sender's for `b = false`, the receiver's for `b = true`. -/
def xsem (b : Bool) (h : Fin 3) (p : Piece) : DmaSem sig :=
  (((semTab p.2 b).slice (Rect.unit (s := S3x4) ![h.val, p.1.val] S1x1.size (inbSem h p.1))).squeeze S_ squeezes_S1x1_S_).sem

/-- The neighbour that a direction sends to, as the body computes it. -/
def tgt (d : Bool) (c : Dev nD) : Dev nD :=
  match d with
  | false => ⟨k0_dev3 c, k0_dev3_lt c⟩
  | true => ⟨k0_dev4 c, k0_dev4_lt c⟩

/-- One program per list element, one after the other. -/
def seqL {ι : Type} (f : ι → Prog (TpuEff nD τ sig (Elt F) Λ₀ .tc) PUnit) : List ι → Prog (TpuEff nD τ sig (Elt F) Λ₀ .tc) PUnit
  | [] => pure ⟨⟩
  | p :: l => f p >>= fun _ => seqL f l

/-- Hop `h` of piece `p`: the transfer of its row block from slot `h` to slot `h + 1` of the neighbour. -/
def sendP (c : Dev nD) (h : Fin 3) (p : Piece) : Prog (TpuEff nD τ sig (Elt F) Λ₀ .tc) PUnit :=
  Prog.lift (.enqueueDma (sq p.2 h.castSucc p.1) (.remote (Dev.tc (tgt p.2 c)) (sq p.2 h.succ p.1) (.dma (xsem false h p)) (by cases p.2 <;> rfl))
    (.dma (xsem true h p)) ((View.wordExact_bits rfl).reshape _ _) ((View.wordExact_bits rfl).reshape _ _) ⟨⟨rfl, Or.inl rfl⟩, trivial⟩)

/-- The wait for hop `h` of piece `p` to have arrived. -/
def recvW (h : Fin 3) (p : Piece) : Prog (TpuEff nD τ sig (Elt F) Λ₀ .tc) PUnit :=
  Prog.lift (.waitDma2 (xsem true h p) (sq p.2 h.castSucc p.1) (sq p.2 h.succ p.1)
    ((View.wordExact_bits rfl).reshape _ _) ((View.wordExact_bits rfl).reshape _ _))

/-- The wait for hop `h` of piece `p` to have left. -/
def sendW (h : Fin 3) (p : Piece) : Prog (TpuEff nD τ sig (Elt F) Λ₀ .tc) PUnit :=
  Prog.lift (.waitDma2 (xsem false h p) (sq p.2 h.succ p.1) (sq p.2 h.castSucc p.1)
    ((View.wordExact_bits rfl).reshape _ _) ((View.wordExact_bits rfl).reshape _ _))

/-- The load of row block `p.1` of slot `s`. -/
def ldB (s : Fin 4) (p : Piece) : Prog (TpuEff nD τ sig (Elt F) Λ₀ .tc) (Vec F S1x128x1024 .f32) :=
  Prog.lift (.load (buf p.2) (rBlk s p.1).toLoadRect (View.loadsAt_vmem h_S1x128x1024))

/-- Hop `h` of piece `p` received, `add p` added to it and the sum sent on. -/
def accP (c : Dev nD) (h h' : Fin 3) (add : Piece → FVec F S128x1024 .f32) (p : Piece) : Prog (TpuEff nD τ sig (Elt F) Λ₀ .tc) PUnit := do
  recvW h p
  let v ← ldB h.succ p
  let _ ← ldB h.succ p
  Prog.lift (.store (buf p.2) (rBlk h.succ p.1)
    (shapeCast S1x128x1024 (addf (shapeCast S128x1024 v shapeCasts_S1x128x1024_S128x1024) (add p)) shapeCasts_S128x1024_S1x128x1024)
    Finset.univ (View.stores_vmem_bits_univ h_S1x128x1024 rfl) (.inl rfl))
  sendP c h' p

/-- The rectangle of piece `p` in a block of the result. -/
def colOf (d : Bool) : Nat := match d with | false => 0 | true => 1024
theorem inbOut (p : Piece) : ∀ a, (![128 * p.1.val, colOf p.2] : Fin 2 → Nat) a + S128x1024.size a ≤ S512x2048.size a := by
  revert p; decide
abbrev rOut (p : Piece) : Rect S512x2048 := Rect.unit (s := S512x2048) ![128 * p.1.val, colOf p.2] S128x1024.size (inbOut p)

theorem slices2048 (p : Piece) : S512x2048.Slices ![128 * p.1.val, colOf p.2] S128x1024 := by
  revert p; decide
theorem slices1024 (j : Fin 4) : S512x1024.Slices ![128 * j.val, 0] S128x1024 := by
  revert j; decide

/-- The last hop of piece `p` received, `add p` added to it, negative elements set to zero, and the result stored. -/
def outP (add : Piece → FVec F S128x1024 .f32) (p : Piece) : Prog (TpuEff nD τ sig (Elt F) Λ₀ .tc) PUnit := do
  recvW 2 p
  let v ← ldB 3 p
  let _ : Vec F S128x1024 .f32 ← Prog.lift (.load oM (rOut p).toLoadRect (View.loadsAt_vmem h_S128x1024))
  Prog.lift (.store oM (rOut p)
    (maximumf (addf (shapeCast S128x1024 v shapeCasts_S1x128x1024_S128x1024) (add p)) (constant S128x1024 .f32 0x00000000#32))
    Finset.univ (View.stores_vmem_bits_univ h_S128x1024 rfl) (.inl rfl))

/-- The pieces of a product of full width, and of one product per direction. -/
def addW (y : FVec F S512x2048 .f32) (p : Piece) : FVec F S128x1024 .f32 := extractStridedSlice S128x1024 ![128 * p.1.val, colOf p.2] y (slices2048 p)
def addH (y : Bool → FVec F S512x1024 .f32) (p : Piece) : FVec F S128x1024 .f32 := extractStridedSlice S128x1024 ![128 * p.1.val, 0] (y p.2) (slices1024 p.1)

/-- The block of `x` at the rows `off`. -/
def ldX (off : Fin 2 → Nat) (h : ∀ a, off a + S512x512.size a ≤ S2048x512.size a) : Prog (TpuEff nD τ sig (Elt F) Λ₀ .tc) (Vec F S512x512 .f32) :=
  Prog.lift (.load xM (Rect.unit (s := S2048x512) off S512x512.size h).toLoadRect (View.loadsAt_vmem h_S512x512))
/-- All of `w`, its left half, its right half. -/
def ldW : Prog (TpuEff nD τ sig (Elt F) Λ₀ .tc) (Vec F S512x2048 .f32) :=
  Prog.lift (.load wM (Rect.unit (s := S512x2048) ![0, 0] S512x2048.size inb_S512x2048_S512x2048_0_0).toLoadRect (View.loadsAt_vmem h_S512x2048))
def ldWL : Prog (TpuEff nD τ sig (Elt F) Λ₀ .tc) (Vec F S512x1024 .f32) :=
  Prog.lift (.load wM (Rect.unit (s := S512x2048) ![0, 0] S512x1024.size inb_S512x2048_S512x1024_0_0).toLoadRect (View.loadsAt_vmem h_S512x1024))
def ldWR : Prog (TpuEff nD τ sig (Elt F) Λ₀ .tc) (Vec F S512x1024 .f32) :=
  Prog.lift (.load wM (Rect.unit (s := S512x2048) ![0, 1024] S512x1024.size inb_S512x2048_S512x1024_0_1024).toLoadRect (View.loadsAt_vmem h_S512x1024))

abbrev rSlot0 : Rect S4x512x1024 := Rect.unit (s := S4x512x1024) ![0, 0, 0] S1x512x1024.size inb_S4x512x1024_S1x512x1024_0_0_0

/-- The first slot of a direction's buffer filled. -/
def fillP (d : Bool) (y : FVec F S1x512x1024 .f32) : Prog (TpuEff nD τ sig (Elt F) Λ₀ .tc) PUnit := do
  let _ : Vec F S1x512x1024 .f32 ← Prog.lift (.load (buf d) rSlot0.toLoadRect (View.loadsAt_vmem h_S1x512x1024))
  Prog.lift (.store (buf d) rSlot0 y Finset.univ (View.stores_vmem_bits_univ h_S1x512x1024 rfl) (.inl rfl))

abbrev barS : Sem sig := (SemArray.scalar (sig.barrier 0 rfl) : Sems sig S_).sem

/-- The handshake with both neighbours. -/
def meetP (c : Dev nD) : Prog (TpuEff nD τ sig (Elt F) Λ₀ .tc) PUnit := do
  semSignalWord (⟨k0_dev1 c, k0_dev1_lt c⟩ : Dev nD) barS 1#32
  semSignalWord (⟨k0_dev2 c, k0_dev2_lt c⟩ : Dev nD) barS 1#32
  semWaitWord barS 2#32

/-- The two products per direction of the third addend. -/
def twoH (y z : FVec F S512x1024 .f32) : Bool → FVec F S512x1024 .f32
  | false => y
  | true => z

/-- What follows the meeting. -/
def restP (c : Dev nD) : Prog (TpuEff nD τ sig (Elt F) Λ₀ .tc) PUnit := do
  let a ← ldX (k0_off1 c) (k0_off1_inb c)
  let b ← ldWL
  fillP false (k0_pay1 a b)
  let a ← ldX (k0_off2 c 1#32) (k0_off2_inb c 0)
  let b ← ldWR
  fillP true (k0_pay3 (k0_pay2 a) b)
  seqL (sendP c 0) pieces
  let a ← ldX (k0_off2 c 2#32) (k0_off2_inb c 1)
  let b ← ldW
  seqL (accP c 0 1 (addW (k0_pay4 a b))) pieces
  let a ← ldX (k0_off2 c 1#32) (k0_off2_inb c 0)
  let b ← ldWL
  let a' ← ldX (k0_off2 c 3#32) (k0_off2_inb c 2)
  let b' ← ldWR
  seqL (accP c 1 2 (addH (twoH (k0_pay15 a b) (k0_pay16 a' b')))) pieces
  let a ← ldX (k0_off3 c) (k0_off3_inb c)
  let b ← ldW
  seqL (outP (addW (k0_pay27 a b))) pieces
  seqL (sendW 0) pieces
  seqL (sendW 1) pieces
  seqL (sendW 2) pieces

/-- The body as loops over the pieces. -/
def bodyP : Prog (TpuEff nD τ sig (Elt F) Λ₀ .tc) PUnit := do
  let c ← Prog.lift .deviceId
  meetP c
  restP c

set_option maxRecDepth 100000 in
/-- The printed body is the listing. -/
theorem body_eq : cc0_body_skel (F := F) (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      (Memref.whole cc0_scratch1) (Memref.isWhole_whole _) cc0_scratch2 cc0_scratch3 cc0_scratch4 cc0_scratch5 = bodyP (F := F) := by
  chain_rfl

end Cert.KernelIdeal.Walk

end
-- ==== Proof.Ideal.Blocks.lean ====
/-
The row blocks of the two communication buffers and of the result: where they lie, that they do not overlap, and
what a load, a store or a transfer of one of them reads and writes.
-/
module

public import proofs.«01_k».proof.Proof.Ideal.Walk
public import Idealize.ShloMosaic.Lib.ViewIndex

@[expose] public section

noncomputable section

namespace Cert.KernelIdeal.Walk

open Cert.KernelIdeal Cert.KernelIdeal.Gen
open Idealize.ShloMosaic Idealize.ShloMosaic.TcCoe Idealize.SL.Sem

variable {F : FTy → Type} [FloatOps F]

/-! ## The two buffers -/

/-- The contents of a direction's buffer. -/
abbrev BufC (F : FTy → Type) (d : Bool) : Type := (buf d).view.ty.Contents (Elt F)

/-- The elements under row block `j` of slot `s`. -/
def bset (d : Bool) (s j : Fin 4) : Finset (buf d).view.ty.Idx := (sq d s j).view.set

/-- Row block `j` of slot `s` of the contents `f`. -/
def rd (d : Bool) (s j : Fin 4) (f : BufC F d) : FVec F S128x1024 .f32 := (sq d s j).view.read (Elt F) f

theorem bset_eq (d : Bool) (s j : Fin 4) : bset d s j = ((buf d).view.slice (rBlk s j)).set := by
  unfold bset sq
  exact Memref.set_view_squeeze _ _

theorem buf_set (d : Bool) : (buf d).view.set = Finset.univ := by
  cases d <;> exact View.set_whole _

/-- An index lies in a row block exactly if its slot and its row say so. -/
theorem mem_rBlk (s j : Fin 4) (i : S4x512x1024.Idx) : i ∈ (rBlk s j).set ↔ (i 0).val = s.val ∧ (i 1).val / 128 = j.val := by
  rw [Rect.mem_set_unit]
  have h2 : (i 2).val < 1024 := (i 2).isLt
  constructor
  · intro h
    have h0 := h 0
    have h1 := h 1
    simp at h0 h1
    omega
  · rintro ⟨h0, h1⟩ a
    fin_cases a <;> simp <;> omega

theorem rBlk_disj {s j s' j' : Fin 4} (h : (s, j) ≠ (s', j')) : Disjoint (rBlk s j).set (rBlk s' j').set := by
  refine Finset.disjoint_left.mpr fun i hi hi' => h ?_
  have h1 := (mem_rBlk s j i).mp hi
  have h2 := (mem_rBlk s' j' i).mp hi'
  exact Prod.ext (Fin.ext (h1.1.symm.trans h2.1)) (Fin.ext (h1.2.symm.trans h2.2))

/-- Different row blocks have no element in common. -/
theorem bset_disj (d : Bool) (b b' : Fin 4 × Fin 4) (h : b ≠ b') : Disjoint (bset d b.1 b.2) (bset d b'.1 b'.2) := by
  rw [bset_eq, bset_eq]
  exact View.disjoint_slice (rBlk_disj h)

/-- The sixteen row blocks are the whole buffer. -/
theorem bset_cover (d : Bool) : (Finset.univ : Finset (Fin 4 × Fin 4)).biUnion (fun b => bset d b.1 b.2) = Finset.univ := by
  refine Finset.eq_univ_iff_forall.mpr fun i => Finset.mem_biUnion.mpr ?_
  have hi : i ∈ (buf d).view.set := by rw [buf_set]; exact Finset.mem_univ i
  obtain ⟨k, -, e⟩ := Finset.mem_map.mp hi
  have hk : (k 1).val < 512 := (k 1).isLt
  refine ⟨((k 0 : Fin 4), ⟨(k 1).val / 128, by omega⟩), Finset.mem_univ _, ?_⟩
  rw [bset_eq, View.set_slice, ← e]
  exact Finset.mem_map_of_mem _ ((mem_rBlk _ _ k).mpr ⟨rfl, rfl⟩)

/-- The first slot is its four row blocks. -/
theorem slot0_cover (d : Bool) : (Finset.univ : Finset (Fin 4)).biUnion (fun j => bset d 0 j) = ((buf d).access rSlot0).set := by
  ext i
  simp only [Finset.mem_biUnion, Finset.mem_univ, true_and]
  constructor
  · rintro ⟨j, hj⟩
    rw [bset_eq, View.set_slice] at hj
    obtain ⟨k, hk, rfl⟩ := Finset.mem_map.mp hj
    show _ ∈ ((buf d).view.slice rSlot0).set
    rw [View.set_slice]
    refine Finset.mem_map_of_mem _ ?_
    have h0 := (mem_rBlk _ _ k).mp hk
    have h1 : (k 1).val < 512 := (k 1).isLt
    have h2 : (k 2).val < 1024 := (k 2).isLt
    rw [Rect.mem_set_unit]
    intro a
    fin_cases a <;> simp <;> first | exact h0.1 | omega
  · intro hi
    change i ∈ ((buf d).view.slice rSlot0).set at hi
    rw [View.set_slice] at hi
    obtain ⟨k, hk, rfl⟩ := Finset.mem_map.mp hi
    have h1 : (k 1).val < 512 := (k 1).isLt
    refine ⟨⟨(k 1).val / 128, by omega⟩, ?_⟩
    rw [bset_eq, View.set_slice]
    refine Finset.mem_map_of_mem _ ((mem_rBlk _ _ k).mpr ⟨?_, rfl⟩)
    have h0 := (Rect.mem_set_unit.mp hk) 0
    simp at h0
    exact h0

/-- A load of a row block, regarded as a matrix, is the block. -/
theorem rd_load (d : Bool) (s j : Fin 4) (f : BufC F d) :
    shapeCast S128x1024 (((buf d).access (rBlk s j)).read (Elt F) f) shapeCasts_S1x128x1024_S128x1024 = rd d s j f := rfl

/-- After the store of a matrix at a row block, the block is that matrix. -/
theorem rd_store (d : Bool) (s j : Fin 4) (f : BufC F d) (y : FVec F S128x1024 .f32) :
    rd d s j (((buf d).access (rBlk s j)).write (Elt F) f (shapeCast S1x128x1024 y shapeCasts_S128x1024_S1x128x1024) Finset.univ) = y := by
  rw [← rd_load, View.read_write_univ]
  funext i
  show y (Shape.reshapeEquiv _ (Shape.reshapeEquiv _ i)) = y i
  rw [Shape.reshapeEquiv_reshapeEquiv, Shape.reshapeEquiv_self]

/-- After the transfer of a matrix into a row block, the block is that matrix. -/
theorem rd_landed (d : Bool) (s j : Fin 4) (f : BufC F d) (y : FVec F S128x1024 .f32) :
    rd d s j ((sq d s j).view.write (Elt F) f y Finset.univ) = y := View.read_write_univ _ _

theorem slicesCut (j : Fin 4) : S1x512x1024.Slices ![0, 128 * j.val, 0] S1x128x1024 := by revert j; decide

/-- Row block `j` of one slot's contents. -/
def cut (j : Fin 4) (y : FVec F S1x512x1024 .f32) : FVec F S128x1024 .f32 :=
  shapeCast S128x1024 (extractStridedSlice S1x128x1024 ![0, 128 * j.val, 0] y (slicesCut j)) shapeCasts_S1x128x1024_S128x1024

/-- After the store of the whole first slot, each of its row blocks is the row block of what was stored. -/
theorem rd_fill (d : Bool) (j : Fin 4) (f : BufC F d) (y : FVec F S1x512x1024 .f32) :
    rd d 0 j (((buf d).access rSlot0).write (Elt F) f y Finset.univ) = cut j y := by
  rw [← rd_load]
  unfold cut
  refine congrArg (fun v => shapeCast S128x1024 v shapeCasts_S1x128x1024_S128x1024) (funext fun i => ?_)
  have h := View.read_slice_write_emb (Val := Elt F) (v := (buf d).view) rSlot0 f y
    (x := fun a => ⟨(![0, 128 * j.val, 0] : Fin 3 → Nat) a + (i a).val, by
      have := (i a).isLt; revert this; fin_cases a <;> simp [Rect.unit] <;> omega⟩) (Finset.mem_univ _)
  refine Eq.trans ?_ h
  show (buf d).view.read (Elt F) _ ((rBlk 0 j).emb i) = _
  congr 1
  funext a
  fin_cases a <;> exact Fin.ext (by simp [Rect.emb_apply])

/-! ## The block of the result -/

/-- The contents of a block of the result. -/
abbrev OutC (F : FTy → Type) : Type := (cc0_stg2_0 : Ref sig .tc).ty.Contents (Elt F)

/-- The piece of a block of the result that the index `i` lies in. -/
def pieceAt (i : S512x2048.Idx) : Piece :=
  (⟨(i 0).val / 128, by have : (i 0).val < 512 := (i 0).isLt; omega⟩, decide (1024 ≤ (i 1).val))

/-- Its place in that piece. -/
def placeAt (i : S512x2048.Idx) : S128x1024.Idx :=
  fun | 0 => ⟨(i 0).val % 128, Nat.mod_lt _ (by decide)⟩ | 1 => ⟨(i 1).val % 1024, Nat.mod_lt _ (by decide)⟩

/-- A block of the result put together of its eight pieces. -/
def joined (R : Piece → FVec F S128x1024 .f32) : OutC F := fun i : S512x2048.Idx => R (pieceAt i) (placeAt i)

/-- The piece `p` of the contents `f`. -/
def ro (p : Piece) (f : OutC F) : FVec F S128x1024 .f32 := ((oM : Memref sig .tc .vmem S512x2048 .f32).access (rOut p)).read (Elt F) f

theorem mem_rOut (p : Piece) (i : S512x2048.Idx) : i ∈ (rOut p).set ↔ pieceAt i = p := by
  obtain ⟨j, d⟩ := p
  rw [Rect.mem_set_unit, Prod.ext_iff, Fin.ext_iff]
  have h0 : (i 0).val < 512 := (i 0).isLt
  have h1 : (i 1).val < 2048 := (i 1).isLt
  have hd : (pieceAt i).2 = d ↔ (colOf d ≤ (i 1).val ∧ (i 1).val < colOf d + 1024) := by
    cases d <;> simp [pieceAt, colOf] <;> omega
  have hj : (pieceAt i).1.val = (i 0).val / 128 := rfl
  dsimp only
  rw [hd, hj]
  constructor
  · intro h
    have e0 := h 0
    have e1 := h 1
    simp at e0 e1
    omega
  · rintro ⟨e0, e1⟩ a
    fin_cases a <;> simp <;> omega

/-- After the store of a piece, the piece is what was stored; -/
theorem ro_store (p : Piece) (f : OutC F) (y : FVec F S128x1024 .f32) :
    ro p (((oM : Memref sig .tc .vmem S512x2048 .f32).access (rOut p)).write (Elt F) f y Finset.univ) = y := View.read_write_univ _ _

/-- every other piece is what it was. -/
theorem ro_store_ne {p p' : Piece} (h : p' ≠ p) (f : OutC F) (y : FVec F S128x1024 .f32) :
    ro p' (((oM : Memref sig .tc .vmem S512x2048 .f32).access (rOut p)).write (Elt F) f y Finset.univ) = ro p' f := by
  refine View.read_slice_write_slice_of_disjoint (v := (oM : Memref sig .tc .vmem S512x2048 .f32).view) (rOut p') (rOut p) f y Finset.univ ?_
  rw [View.setOn_univ]
  exact View.disjoint_slice (Finset.disjoint_left.mpr fun i hi hi' => h (((mem_rOut p' i).mp hi).symm.trans ((mem_rOut p i).mp hi')))

/-- Contents whose every piece is known. -/
theorem eq_joined (f : OutC F) (R : Piece → FVec F S128x1024 .f32) (h : ∀ p, ro p f = R p) : f = joined R := by
  funext i
  have e := congrFun (h (pieceAt i)) (placeAt i)
  have h0 : (i 0).val < 512 := (i 0).isLt
  have h1 : (i 1).val < 2048 := (i 1).isLt
  have hi : (rOut (pieceAt i)).emb (placeAt i) = i := by
    funext a
    fin_cases a
    · refine Fin.ext ?_
      simp [Rect.emb_apply, pieceAt, placeAt]
      omega
    · refine Fin.ext ?_
      simp [Rect.emb_apply, pieceAt, placeAt]
      by_cases hc : 1024 ≤ (i 1).val <;> simp [hc, colOf] <;> omega
  refine Eq.trans ?_ e
  show f i = (oM : Memref sig .tc .vmem S512x2048 .f32).view.read (Elt F) f ((rOut (pieceAt i)).emb (placeAt i))
  rw [hi]
  exact (congrFun (View.read_whole (Val := Elt F) cc0_stg2_0 f) i).symm

/-! ## What the pieces are -/

/-- The contents of a block of each operand. -/
abbrev XC (F : FTy → Type) : Type := (cc0_stg0_0 : Ref sig .tc).ty.Contents (Elt F)
abbrev WC (F : FTy → Type) : Type := (cc0_stg1_0 : Ref sig .tc).ty.Contents (Elt F)

/-- The device that a direction receives from. -/
def frm (d : Bool) (c : Dev nD) : Dev nD := tgt (!d) c

set_option backward.proofsInPublic true in
/-- The next device and the one before, around the ring. -/
def nxt (c : Dev nD) : Dev nD := ⟨(c.val + 1) % 4, Nat.mod_lt _ (by decide)⟩
set_option backward.proofsInPublic true in
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide
theorem tgt_false (c : Dev nD) : tgt false c = nxt c := Fin.ext (k0_dev3_eq c)
theorem tgt_true (c : Dev nD) : tgt true c = prv c := Fin.ext (k0_dev4_eq c)
theorem tgt_frm (d : Bool) (c : Dev nD) : tgt d (frm d c) = c := by
  unfold frm
  cases d
  · rw [Bool.not_false, tgt_false, tgt_true, nxt_prv]
  · rw [Bool.not_true, tgt_false, tgt_true, prv_nxt]
theorem frm_tgt (d : Bool) (c : Dev nD) : frm d (tgt d c) = c := by
  unfold frm
  cases d
  · rw [Bool.not_false, tgt_false, tgt_true, prv_nxt]
  · rw [Bool.not_true, tgt_false, tgt_true, nxt_prv]
/-- The first signal goes to the device that the direction `false` receives from, the second to that of `true`. -/
theorem dev1_eq (c : Dev nD) : (⟨k0_dev1 c, k0_dev1_lt c⟩ : Dev nD) = frm false c := (Fin.ext (k0_dev1_eq c)).trans (tgt_true c).symm
theorem dev2_eq (c : Dev nD) : (⟨k0_dev2 c, k0_dev2_lt c⟩ : Dev nD) = frm true c := (Fin.ext (k0_dev2_eq c)).trans (tgt_false c).symm

variable (X : Dev nD → XC F) (W : Dev nD → WC F)

/-- What the body's loads of the operands read on device `c`. -/
def lx (c : Dev nD) (off : Fin 2 → Nat) (h : ∀ a, off a + S512x512.size a ≤ S2048x512.size a) : Vec F S512x512 .f32 :=
  ((xM : Memref sig .tc .vmem S2048x512 .f32).access (Rect.unit (s := S2048x512) off S512x512.size h)).read (Elt F) (X c)
def lw (c : Dev nD) : Vec F S512x2048 .f32 :=
  ((wM : Memref sig .tc .vmem S512x2048 .f32).access (Rect.unit (s := S512x2048) ![0, 0] S512x2048.size inb_S512x2048_S512x2048_0_0)).read (Elt F) (W c)
def lwl (c : Dev nD) : Vec F S512x1024 .f32 :=
  ((wM : Memref sig .tc .vmem S512x2048 .f32).access (Rect.unit (s := S512x2048) ![0, 0] S512x1024.size inb_S512x2048_S512x1024_0_0)).read (Elt F) (W c)
def lwr (c : Dev nD) : Vec F S512x1024 .f32 :=
  ((wM : Memref sig .tc .vmem S512x2048 .f32).access (Rect.unit (s := S512x2048) ![0, 1024] S512x1024.size inb_S512x2048_S512x1024_0_1024)).read (Elt F) (W c)

/-- The product that a direction starts from, and the three that device `c` adds on the way. -/
def start (d : Bool) (c : Dev nD) : FVec F S1x512x1024 .f32 :=
  match d with
  | false => k0_pay1 (lx X c (k0_off1 c) (k0_off1_inb c)) (lwl W c)
  | true => k0_pay3 (k0_pay2 (lx X c (k0_off2 c 1#32) (k0_off2_inb c 0))) (lwr W c)
def add0 (c : Dev nD) : Piece → FVec F S128x1024 .f32 := addW (k0_pay4 (lx X c (k0_off2 c 2#32) (k0_off2_inb c 1)) (lw W c))
def add1 (c : Dev nD) : Piece → FVec F S128x1024 .f32 :=
  addH (twoH (k0_pay15 (lx X c (k0_off2 c 1#32) (k0_off2_inb c 0)) (lwl W c)) (k0_pay16 (lx X c (k0_off2 c 3#32) (k0_off2_inb c 2)) (lwr W c)))
def add2 (c : Dev nD) : Piece → FVec F S128x1024 .f32 := addW (k0_pay27 (lx X c (k0_off3 c) (k0_off3_inb c)) (lw W c))

/-- What device `c` sends of piece `p` at hop `h`: first its own product, then what it has received plus its own. -/
def sent (h : Fin 3) (p : Piece) (c : Dev nD) : FVec F S128x1024 .f32 :=
  match h with
  | 0 => cut p.1 (start X W p.2 c)
  | 1 => addf (cut p.1 (start X W p.2 (frm p.2 c))) (add0 X W c p)
  | 2 => addf (addf (cut p.1 (start X W p.2 (frm p.2 (frm p.2 c)))) (add0 X W (frm p.2 c) p)) (add1 X W c p)

/-- The piece `p` of the result of device `c`. -/
def res (c : Dev nD) (p : Piece) : FVec F S128x1024 .f32 :=
  maximumf (addf (sent X W 2 p (frm p.2 c)) (add2 X W c p)) (constant S128x1024 .f32 0x00000000#32)

/-- The result of device `c`. -/
def outAt (c : Dev nD) : OutC F := joined (res X W c)

end Cert.KernelIdeal.Walk

end
-- ==== Proof.Ideal.Value.lean ====
/-
What the pieces of the result are over the extended reals: every product that travels around the ring, read at an index.
-/
module

public import proofs.«01_k».proof.Proof.Ideal.Blocks
public import Idealize.ShloMosaic.Lib.Pointwise

@[expose] public section

noncomputable section

namespace Cert.KernelIdeal.Walk

open Cert.KernelIdeal Cert.KernelIdeal.Gen
open Idealize.ShloMosaic Idealize.ShloMosaic.TcCoe Idealize.SL.Sem

variable (X : Dev nD → XC Ideal) (W : Dev nD → WC Ideal)

/-- The operands' blocks of device `c`, as matrices of extended reals. -/
def mx (c : Dev nD) : FVec Ideal S2048x512 .f32 := fun i => X c i
def mw (c : Dev nD) : FVec Ideal S512x2048 .f32 := fun i => W c i

/-- Row `i` of the row block of device `e`. -/
def rowOf (e : Dev nD) (i : Fin 512) : Fin 2048 := ⟨512 * e.val + i.val, by have : e.val < 4 := e.isLt; omega⟩

/-- What device `c` contributes to row `i` of the result's row block of device `e`, at column `q`: its 512 terms of
    the contraction. -/
def part (c e : Dev nD) (i : Fin 512) (q : Fin 2048) : EReal :=
  ∑ k : Fin 512, (mx X c (ix2 (rowOf e i) k) : EReal) * mw W c (ix2 k q)

/-- A load of 512 rows of the first operand, at an index. -/
theorem lx_at (c : Dev nD) (e : Dev nD) (off : Fin 2 → Nat) (h : ∀ a, off a + S512x512.size a ≤ S2048x512.size a)
    (he : off = ![512 * e.val, 0]) (a b : Fin 512) : lx X c off h (ix2 a b) = mx X c (ix2 (rowOf e a) b) := by
  subst he
  show X c ((Rect.unit (s := S2048x512) ![512 * e.val, 0] S512x512.size h).emb (ix2 a b)) = X c (ix2 (rowOf e a) b)
  refine congrArg (X c) ?_
  funext i
  fin_cases i <;> exact Fin.ext (by simp [Rect.emb_apply, rowOf])

/-- A load of the second operand, at an index: all of it, -/
theorem lw_at (c : Dev nD) (a : Fin 512) (b : Fin 2048) : lw W c (ix2 a b) = mw W c (ix2 a b) := by
  show W c ((Rect.unit (s := S512x2048) ![0, 0] S512x2048.size inb_S512x2048_S512x2048_0_0).emb (ix2 a b)) = W c (ix2 a b)
  refine congrArg (W c) ?_
  funext i
  fin_cases i <;> exact Fin.ext (by simp [Rect.emb_apply])

/-- its left half, -/
theorem lwl_at (c : Dev nD) (a : Fin 512) (b : Fin 1024) : lwl W c (ix2 a b) = mw W c (ix2 a ⟨b.val, by omega⟩) := by
  show W c ((Rect.unit (s := S512x2048) ![0, 0] S512x1024.size inb_S512x2048_S512x1024_0_0).emb (ix2 a b)) = W c (ix2 a ⟨b.val, _⟩)
  refine congrArg (W c) ?_
  funext i
  fin_cases i <;> exact Fin.ext (by simp [Rect.emb_apply])

/-- its right half. -/
theorem lwr_at (c : Dev nD) (a : Fin 512) (b : Fin 1024) : lwr W c (ix2 a b) = mw W c (ix2 a ⟨1024 + b.val, by omega⟩) := by
  show W c ((Rect.unit (s := S512x2048) ![0, 1024] S512x1024.size inb_S512x2048_S512x1024_0_1024).emb (ix2 a b)) = W c (ix2 a ⟨1024 + b.val, _⟩)
  refine congrArg (W c) ?_
  funext i
  fin_cases i <;> exact Fin.ext (by simp [Rect.emb_apply])

/-- The product of two matrices of the sizes that the body multiplies for one half of the columns, -/
theorem half_at (x : Vec Ideal S512x512 .f32) (y : Vec Ideal S512x1024 .f32) (a : Fin 512) (b : Fin 1024) :
    k0_pay15 x y (ix2 a b) = ∑ k : Fin 512, x (ix2 a k) * y (ix2 k b) := by
  pointwise [k0_pay15]

/-- and for all columns. -/
theorem full_at (x : Vec Ideal S512x512 .f32) (y : Vec Ideal S512x2048 .f32) (a : Fin 512) (b : Fin 2048) :
    k0_pay4 x y (ix2 a b) = ∑ k : Fin 512, x (ix2 a k) * y (ix2 k b) := by
  pointwise [k0_pay4]

theorem pay16_eq : k0_pay16 (F := Ideal) = k0_pay15 := rfl
theorem pay27_eq : k0_pay27 (F := Ideal) = k0_pay4 := rfl

/-- A row block of the first product, at an index. -/
theorem cut_pay1_at (j : Fin 4) (x : Vec Ideal S512x512 .f32) (y : Vec Ideal S512x1024 .f32) (a : Fin 128) (b : Fin 1024) :
    cut j (k0_pay1 x y) (ix2 a b) = k0_pay15 x y (ix2 ⟨128 * j.val + a.val, by omega⟩ b) := by
  fin_cases j <;> pointwise [cut, k0_pay1, k0_pay15]

theorem pay3_eq (x : Vec Ideal S512x512 .f32) (y : Vec Ideal S512x1024 .f32) : k0_pay3 (k0_pay2 x) y = k0_pay1 x y := rfl

/-! ## The four terms of a piece -/

/-- Row `a` of row block `j`, and column `b` of the half of direction `d`. -/
def rowIn (j : Fin 4) (a : Fin 128) : Fin 512 := ⟨128 * j.val + a.val, by omega⟩
def colIn (d : Bool) (b : Fin 1024) : Fin 2048 := ⟨colOf d + b.val, by cases d <;> simp only [colOf] <;> omega⟩

/-- A load of the second operand's half of direction `d`. -/
def lwh (d : Bool) (c : Dev nD) : Vec Ideal S512x1024 .f32 := match d with | false => lwl W c | true => lwr W c

theorem lwh_at (d : Bool) (c : Dev nD) (a : Fin 512) (b : Fin 1024) : lwh W d c (ix2 a b) = mw W c (ix2 a (colIn d b)) := by
  cases d
  · exact (lwl_at W c a b).trans (congrArg (fun q => mw W c (ix2 a q)) (Fin.ext (by simp [colIn, colOf])))
  · exact (lwr_at W c a b).trans (congrArg (fun q => mw W c (ix2 a q)) (Fin.ext (by simp [colIn, colOf])))

/-- The product of device `c`'s rows of the row block of `e` with one half of its second operand, -/
theorem half_part (d : Bool) (c e : Dev nD) (off : Fin 2 → Nat) (h : ∀ a, off a + S512x512.size a ≤ S2048x512.size a)
    (he : off = ![512 * e.val, 0]) (a : Fin 512) (b : Fin 1024) :
    k0_pay15 (lx X c off h) (lwh W d c) (ix2 a b) = part X W c e a (colIn d b) := by
  rw [half_at]
  exact Finset.sum_congr rfl fun k _ => by rw [lx_at X c e off h he, lwh_at]

/-- and with all of it. -/
theorem full_part (c e : Dev nD) (off : Fin 2 → Nat) (h : ∀ a, off a + S512x512.size a ≤ S2048x512.size a)
    (he : off = ![512 * e.val, 0]) (a : Fin 512) (b : Fin 2048) :
    k0_pay4 (lx X c off h) (lw W c) (ix2 a b) = part X W c e a b := by
  rw [full_at]
  exact Finset.sum_congr rfl fun k _ => by rw [lx_at X c e off h he, lw_at]

/-- Pieces of a product are read at the piece's rows and columns. -/
theorem addW_at (y : FVec Ideal S512x2048 .f32) (p : Piece) (a : Fin 128) (b : Fin 1024) :
    addW y p (ix2 a b) = y (ix2 (rowIn p.1 a) (colIn p.2 b)) := by
  unfold addW rowIn colIn
  pointwise

theorem addH_at (y : Bool → FVec Ideal S512x1024 .f32) (p : Piece) (a : Fin 128) (b : Fin 1024) :
    addH y p (ix2 a b) = y p.2 (ix2 (rowIn p.1 a) b) := by
  unfold addH rowIn
  pointwise

/-- Where the rows lie that a device multiplies at each step: the row block of the device that the piece will end on. -/
theorem frm_false (c : Dev nD) : frm false c = prv c := tgt_true c
theorem frm_true (c : Dev nD) : frm true c = nxt c := tgt_false c
theorem off_start_false (c : Dev nD) : k0_off1 c = ![512 * (frm false c).val, 0] := by rw [k0_off1_eq, frm_false]; rfl
theorem off_start_true (c : Dev nD) : k0_off2 c 1#32 = ![512 * (frm true c).val, 0] := by
  rw [frm_true]; exact k0_off2_eq c 0
theorem off_add0 (d : Bool) (c : Dev nD) : k0_off2 c 2#32 = ![512 * (frm d (frm d c)).val, 0] := by
  refine (k0_off2_eq c 1).trans ?_
  cases d
  · rw [frm_false, frm_false]; revert c; decide
  · rw [frm_true, frm_true]; revert c; decide
theorem off_add1_false (c : Dev nD) : k0_off2 c 1#32 = ![512 * (tgt false c).val, 0] := by
  rw [tgt_false]; exact k0_off2_eq c 0
theorem off_add1_true (c : Dev nD) : k0_off2 c 3#32 = ![512 * (tgt true c).val, 0] := by
  rw [tgt_true]; exact k0_off2_eq c 2

/-- What each step contributes to piece `p`: the terms of the device that does it. -/
theorem start_part (p : Piece) (c : Dev nD) (a : Fin 128) (b : Fin 1024) :
    cut p.1 (start X W p.2 c) (ix2 a b) = part X W c (frm p.2 c) (rowIn p.1 a) (colIn p.2 b) := by
  obtain ⟨j, d⟩ := p
  cases d
  · exact (cut_pay1_at j _ _ a b).trans (half_part X W false c _ _ _ (off_start_false c) (rowIn j a) b)
  · refine (congrFun (congrArg (cut j) (pay3_eq _ _)) _).trans ?_
    exact (cut_pay1_at j _ _ a b).trans (half_part X W true c _ _ _ (off_start_true c) (rowIn j a) b)

theorem add0_part (p : Piece) (c : Dev nD) (a : Fin 128) (b : Fin 1024) :
    add0 X W c p (ix2 a b) = part X W c (frm p.2 (frm p.2 c)) (rowIn p.1 a) (colIn p.2 b) :=
  (addW_at _ p a b).trans (full_part X W c _ _ _ (off_add0 p.2 c) _ _)

theorem add1_part (p : Piece) (c : Dev nD) (a : Fin 128) (b : Fin 1024) :
    add1 X W c p (ix2 a b) = part X W c (tgt p.2 c) (rowIn p.1 a) (colIn p.2 b) := by
  refine (addH_at _ p a b).trans ?_
  obtain ⟨j, d⟩ := p
  cases d
  · exact half_part X W false c _ _ _ (off_add1_false c) (rowIn j a) b
  · exact (congrFun (congrFun (congrFun pay16_eq _) _) _).trans (half_part X W true c _ _ _ (off_add1_true c) (rowIn j a) b)

theorem add2_part (p : Piece) (c : Dev nD) (a : Fin 128) (b : Fin 1024) :
    add2 X W c p (ix2 a b) = part X W c c (rowIn p.1 a) (colIn p.2 b) := by
  refine (addW_at _ p a b).trans ?_
  exact (congrFun (congrFun (congrFun pay27_eq _) _) _).trans (full_part X W c _ _ _ (k0_off3_eq c) _ _)

/-- Three steps back around the ring and one more are none. -/
theorem frm4 (d : Bool) (c : Dev nD) : frm d (frm d (frm d (frm d c))) = c := by
  cases d
  · rw [frm_false, frm_false, frm_false, frm_false]; revert c; decide
  · rw [frm_true, frm_true, frm_true, frm_true]; revert c; decide

/-- A sum over the devices, in the order in which a piece passes them. -/
theorem sum_ring (d : Bool) (c : Dev nD) (f : Dev nD → EReal) :
    f (frm d (frm d (frm d c))) + f (frm d (frm d c)) + f (frm d c) + f c = ∑ e : Dev nD, f e := by
  have h : (∑ e : Dev nD, f e) = f 0 + f 1 + f 2 + f 3 := Fin.sum_univ_four f
  have p0 : prv 0 = 3 := by decide
  have p1 : prv 1 = 0 := by decide
  have p2 : prv 2 = 1 := by decide
  have p3 : prv 3 = 2 := by decide
  have n0 : nxt 0 = 1 := by decide
  have n1 : nxt 1 = 2 := by decide
  have n2 : nxt 2 = 3 := by decide
  have n3 : nxt 3 = 0 := by decide
  have hc : c = 0 ∨ c = 1 ∨ c = 2 ∨ c = 3 := by revert c; decide
  rw [h]
  cases d
  · simp only [frm_false]
    rcases hc with rfl | rfl | rfl | rfl <;> simp only [p0, p1, p2, p3] <;> ac_rfl
  · simp only [frm_true]
    rcases hc with rfl | rfl | rfl | rfl <;> simp only [n0, n1, n2, n3] <;> ac_rfl

/-- Piece `p` of device `c`'s result, at an index: the sum of what all devices contribute, and zero where that is negative. -/
theorem res_at (c : Dev nD) (p : Piece) (a : Fin 128) (b : Fin 1024) :
    res X W c p (ix2 a b) = max (∑ e : Dev nD, part X W e c (rowIn p.1 a) (colIn p.2 b)) 0 := by
  have h0 := start_part X W p (frm p.2 (frm p.2 (frm p.2 c))) a b
  have h1 := add0_part X W p (frm p.2 (frm p.2 c)) a b
  have h2 := add1_part X W p (frm p.2 c) a b
  have h3 := add2_part X W p c a b
  rw [frm4] at h0 h1
  rw [tgt_frm] at h2
  rw [← sum_ring p.2 c, ← h0, ← h1, ← h2, ← h3]
  unfold res sent
  pointwise

/-- Device `c`'s result at row `i` and column `q`. -/
theorem outAt_at (c : Dev nD) (i : Fin 512) (q : Fin 2048) :
    (outAt X W c : FVec Ideal S512x2048 .f32) (ix2 i q) = max (∑ e : Dev nD, part X W e c i q) 0 := by
  have hp : placeAt (ix2 i q) = ix2 ⟨i.val % 128, Nat.mod_lt _ (by decide)⟩ ⟨q.val % 1024, Nat.mod_lt _ (by decide)⟩ := by
    funext a
    fin_cases a <;> rfl
  refine (congrArg (res X W c (pieceAt (ix2 i q))) hp).trans ?_
  rw [res_at]
  have hr : rowIn (pieceAt (ix2 i q)).1 ⟨i.val % 128, Nat.mod_lt _ (by decide)⟩ = i :=
    Fin.ext (Nat.div_add_mod i.val 128)
  have hc : colIn (pieceAt (ix2 i q)).2 ⟨q.val % 1024, Nat.mod_lt _ (by decide)⟩ = q := by
    have hq : (pieceAt (ix2 i q)).2 = decide (1024 ≤ q.val) := rfl
    rw [hq]
    refine Fin.ext ?_
    by_cases h : 1024 ≤ q.val <;> simp [colIn, colOf, h] <;> omega
  rw [hr, hc]

end Cert.KernelIdeal.Walk

end
-- ==== Proof.Ideal.Equation.lean ====
/-
The equation: over the extended reals each device's block of the result is its block of the reference's, when the
devices hold the blocks of the reference's operands.
-/
module

public import proofs.«01_k».proof.Proof.Ideal.Value
public import proofs.«01_k».proof.Proof.Gen.ReferenceIdeal.Run
public import Idealize.ShloMosaic.Lib.Layout

@[expose] public section

noncomputable section

namespace Cert.KernelIdeal.Walk

open Cert.KernelIdeal Cert.KernelIdeal.Gen
open Idealize.ShloMosaic Idealize.ShloMosaic.TcCoe Idealize.SL.Sem

/-- What the reference computes from the whole operands. -/
def refOut (x w : FVec Ideal ReferenceIdeal.S2048x2048 .f32) : FVec Ideal ReferenceIdeal.S2048x2048 .f32 :=
  maximumf (Host.dotGeneral ReferenceIdeal.dot_S2048x2048_S2048x2048_S2048x2048_1_0_0_1_n_n none x w)
    (broadcastInDim ReferenceIdeal.S2048x2048 ![] ReferenceIdeal.Gen.bcast_S_S2048x2048 (constant ReferenceIdeal.S_ .f32 0x00000000#32))

/-- Row `r` and column `q` of it: the product's element, and zero where that is negative. -/
theorem refOut_at (x w : FVec Ideal ReferenceIdeal.S2048x2048 .f32) (r q : Fin 2048) :
    refOut x w (ix2 r q) = max (∑ k : Fin 2048, (x (ix2 r k) : EReal) * w (ix2 k q)) 0 := by
  pointwise [refOut]

variable (X : Dev nD → XC Ideal) (W : Dev nD → WC Ideal) (x w : FVec Ideal ReferenceIdeal.S2048x2048 .f32)

/-- What device `c` contributes, when it holds block `c` of the columns of `x` and of the rows of `w`: the terms
    `512 * c`, …, `512 * c + 511` of the contraction. -/
theorem part_block (c e : Dev nD) (hX : X c = Layout.block ⟨2, ![2048, 512]⟩ ⟨2, ![2048, 2048]⟩ 1 4 c x)
    (hW : W c = Layout.block ⟨2, ![512, 2048]⟩ ⟨2, ![2048, 2048]⟩ 0 4 c w) (i : Fin 512) (q : Fin 2048) :
    part X W c e i q = ∑ k : Fin 512,
      (x (ix2 (rowOf e i) ⟨c.val * 512 + k.val, by have : c.val < 4 := c.isLt; omega⟩) : EReal)
        * w (ix2 ⟨c.val * 512 + k.val, by have : c.val < 4 := c.isLt; omega⟩ q) := by
  refine Finset.sum_congr rfl fun k _ => ?_
  unfold mx mw
  rw [hX, hW]
  refine congrArg₂ (fun a b : EReal => a * b) (congrArg x ?_) (congrArg w ?_)
  · funext a
    fin_cases a <;> rfl
  · funext a
    fin_cases a <;> rfl

/-- Device `c`'s result is block `c` of the rows of the reference's. -/
theorem outAt_block (hX : ∀ c, X c = Layout.block ⟨2, ![2048, 512]⟩ ⟨2, ![2048, 2048]⟩ 1 4 c x)
    (hW : ∀ c, W c = Layout.block ⟨2, ![512, 2048]⟩ ⟨2, ![2048, 2048]⟩ 0 4 c w) (c : Dev nD) :
    (outAt X W c : S512x2048.Idx → Elt Ideal .f32) = Layout.block ⟨2, ![512, 2048]⟩ ⟨2, ![2048, 2048]⟩ 0 4 c (refOut x w) := by
  funext j
  obtain ⟨i, q, rfl⟩ : ∃ (i : Fin 512) (q : Fin 2048), j = ix2 i q := ⟨j 0, j 1, eq_ix2 j⟩
  refine (outAt_at X W c i q).trans ?_
  refine Eq.trans ?_ (b := refOut x w (ix2 (rowOf c i) q)) ?_
  · rw [refOut_at, Fin.sum_univ_tiles 4 512 rfl]
    refine congrArg (fun s : EReal => max s 0) (Finset.sum_congr rfl fun e _ => ?_)
    exact part_block X W x w e c (hX e) (hW e) i q
  · refine congrArg (refOut x w) ?_
    funext a
    fin_cases a
    · exact Fin.ext (by show 512 * c.val + i.val = c.val * 512 + i.val; omega)
    · rfl

end Cert.KernelIdeal.Walk

end
-- ==== Proof.Ideal.Sched.lean ====
/-
Who signals whom, and what a signal hands over.

Every device has one meeting semaphore and, for each hop, row block and direction, a sender's and a receiver's
semaphore. Each of them is used for one round: the meeting semaphore is raised once by each neighbour, and brings the
landing places in that neighbour's buffer; a receiver's semaphore is raised by the transfer that fills the block, and
brings the block; a sender's semaphore is raised when the transfer has left, and returns the block it was read from.
-/
module

public import proofs.«01_k».proof.Proof.Ideal.Blocks
public import Idealize.ShloMosaic.Lib.Pipeline.Launch
public import Idealize.ShloMosaic.Lib.Pipeline.Kit
public import Idealize.ShloMosaic.Lib.Pipeline.BigSepL
public import Idealize.ShloMosaic.Lib.Ring
public import Idealize.ShloMosaic.Lib.Tactic

@[expose] public section

noncomputable section

namespace Cert.KernelIdeal.Walk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

/-! ## The semaphores -/

/-- A transfer's semaphore: sender's or receiver's, hop, piece. -/
abbrev XI : Type := Bool × (Fin 3 × Piece)
/-- A device's semaphores: the meeting's, and the transfers'. -/
abbrev KI : Type := Option XI

abbrev osem (x : XI) : SemLoc sig := .dma (xsem x.1 x.2.1 x.2.2)
def csem : KI → SemLoc sig
  | none => .reg barS
  | some x => osem x
abbrev kcell (ck : Dev nD × KI) : GSem nD τ sig := ((ck.1 : Thread nD τ), csem ck.2)

/-- Which transfer's semaphore a number is. -/
def unsem (s : DmaSem sig) : Option XI :=
  if 3 ≤ s.val then
    some (decide ((s.val - 3) / 12 % 2 = 1), ⟨(s.val - 3) / 4 % 3, Nat.mod_lt _ (by decide)⟩, ⟨(s.val - 3) % 4, Nat.mod_lt _ (by decide)⟩, decide (24 ≤ s.val - 3))
  else none

theorem unsem_xsem (x : XI) : unsem (xsem x.1 x.2.1 x.2.2) = some x := by
  obtain ⟨b, h, j, d⟩ := x
  cases b <;> cases d <;> fin_cases h <;> fin_cases j <;> rfl

/-- Which of a device's semaphores a cell is. -/
def kind (g : GSem nD τ sig) : Option KI :=
  if g.1.2 = .tc then (match g.2 with | .reg s => if s = barS then some none else none | .dma s => (unsem s).map some) else none

theorem kind_kcell (ck : Dev nD × KI) : kind (kcell ck) = some ck.2 := by
  obtain ⟨c, k⟩ := ck
  unfold kind
  rw [if_pos rfl]
  cases k with
  | none => exact if_pos rfl
  | some x => exact congrArg (Option.map some) (unsem_xsem x)

theorem kcell_injective : Function.Injective kcell := fun a b h => by
  have h2 : a.2 = b.2 := Option.some.inj ((kind_kcell a).symm.trans ((congrArg kind h).trans (kind_kcell b)))
  have h1 : (a.1 : Thread nD τ) = (b.1 : Thread nD τ) := congrArg Prod.fst h
  exact Prod.ext (congrArg (fun t : Thread nD τ => t.1) h1) h2

/-- The credit of one row block. -/
abbrev N : ℕ := (sq false 0 0).view.dmaCredit
theorem N_pos : 0 < N := View.dmaCredit_pos _ (by decide)

/-! ## Blocks held -/

/-- Row block `j` of slot `s` of device `c`'s buffer `d`, in contents `f`. -/
def blk (c : Dev nD) (d : Bool) (s j : Fin 4) (f : BufC F d) : sProp 𝕄 :=
  (buf d).view.loc (c : Thread nD τ) ↦[bset d s j]{fullShare} f

omit [FloatOps F] in
instance blk_storable (c : Dev nD) (d : Bool) (s j : Fin 4) (f : BufC F d) : BI.Storable (upEmb : UEmb _ 𝕄) (blk (F := F) c d s j f) := by
  unfold blk; infer_instance

/-- The block with some contents, and with the contents `y`. -/
def blkAny (c : Dev nD) (d : Bool) (s j : Fin 4) : sProp 𝕄 := iprop(∃ f : BufC F d, blk c d s j f)
def blkIs (c : Dev nD) (d : Bool) (s j : Fin 4) (y : FVec F S128x1024 .f32) : sProp 𝕄 := iprop(∃ f : BufC F d, ⌜rd d s j f = y⌝ ∗ blk c d s j f)

omit [FloatOps F] in
instance blkAny_storable (c : Dev nD) (d : Bool) (s j : Fin 4) : BI.Storable (upEmb : UEmb _ 𝕄) (blkAny (F := F) c d s j) := by
  unfold blkAny; infer_instance
omit [FloatOps F] in
instance blkIs_storable (c : Dev nD) (d : Bool) (s j : Fin 4) (y : FVec F S128x1024 .f32) : BI.Storable (upEmb : UEmb _ 𝕄) (blkIs (F := F) c d s j y) := by
  unfold blkIs; infer_instance

variable (X : Dev nD → XC F) (W : Dev nD → WC F)

/-- What the meeting brings `c` from the neighbour that it sends to in the direction `d`: the landing places of the three hops. -/
def barPay (c : Dev nD) (d : Bool) : sProp 𝕄 := bigSep Finset.univ fun hj : Fin 3 × Fin 4 => blkAny (F := F) (tgt d c) d hj.1.succ hj.2
/-- What a transfer's semaphore brings: the block that arrived, or the block that was read. -/
def xferPay (c : Dev nD) (x : XI) : sProp 𝕄 :=
  if x.1 = true then blkIs c x.2.2.2 x.2.1.succ x.2.2.1 (sent X W x.2.1 x.2.2 (frm x.2.2.2 c)) else blkAny (F := F) c x.2.2.2 x.2.1.castSucc x.2.2.1

omit [FloatOps F] in
instance barPay_storable (c : Dev nD) (d : Bool) : BI.Storable (upEmb : UEmb _ 𝕄) (barPay (F := F) c d) := by
  unfold barPay; infer_instance
instance xferPay_storable (c : Dev nD) (x : XI) : BI.Storable (upEmb : UEmb _ 𝕄) (xferPay X W c x) := by
  unfold xferPay; split <;> infer_instance

/-! ## The schedule -/

/-- One round: two duties of one unit at a meeting semaphore, one of a row block's credit at a transfer's. -/
def ringRd : Rounds.Schedule (GSem nD τ sig) Bool 𝕄 where
  duties g r := if r = 0 then (match kind g with | none => ∅ | some none => Finset.univ | some (some _) => {false}) else ∅
  unitless _ := False
  amount g _ _ := if kind g = some none then 1 else N
  payload g _ d := match kind g with | none => iprop(emp) | some none => barPay g.1.1 d | some (some x) => xferPay X W g.1.1 x
  amount_pos g _ _ _ := by
    by_cases h : kind g = some none
    · rw [if_pos h]; exact Nat.one_pos
    · rw [if_neg h]; exact N_pos

instance ringRd_payload_storable (g : GSem nD τ sig) (r : ℕ) (d : Bool) : BI.Storable (upEmb : UEmb _ 𝕄) ((ringRd X W).payload g r d) := by
  show BI.Storable upEmb (match kind g with | none => iprop(emp) | some none => barPay g.1.1 d | some (some x) => xferPay X W g.1.1 x)
  cases kind g with
  | none => infer_instance
  | some k => cases k <;> infer_instance

theorem duties_bar (c : Dev nD) : (ringRd X W).duties (kcell (c, none)) 0 = Finset.univ := by dsimp only [ringRd]; rw [if_pos rfl, kind_kcell]
theorem duties_xfer (c : Dev nD) (x : XI) : (ringRd X W).duties (kcell (c, some x)) 0 = {false} := by dsimp only [ringRd]; rw [if_pos rfl, kind_kcell]
theorem duties_later (g : GSem nD τ sig) : ∀ r, 1 ≤ r → (ringRd X W).duties g r = ∅ :=
  fun r hr => by dsimp only [ringRd]; exact if_neg (by omega)
theorem amount_bar (c : Dev nD) (d : Bool) : (ringRd X W).amount (kcell (c, none)) 0 d = 1 := by dsimp only [ringRd]; rw [kind_kcell, if_pos rfl]
theorem amount_xfer (c : Dev nD) (x : XI) (d : Bool) : (ringRd X W).amount (kcell (c, some x)) 0 d = N := by
  dsimp only [ringRd]; rw [kind_kcell, if_neg (fun h => by cases h)]
theorem expect_bar (c : Dev nD) : (ringRd X W).expect (kcell (c, none)) 0 = 2 := by
  unfold Schedule.expect Schedule.amountOf
  rw [duties_bar, Finset.sum_congr rfl fun d _ => amount_bar X W c d, Finset.sum_const, Finset.card_univ, Fintype.card_bool, smul_eq_mul]
theorem expect_xfer (c : Dev nD) (x : XI) : (ringRd X W).expect (kcell (c, some x)) 0 = N := by
  unfold Schedule.expect Schedule.amountOf; rw [duties_xfer, Finset.sum_singleton, amount_xfer]
theorem payload_bar (c : Dev nD) (d : Bool) : (ringRd X W).payload (kcell (c, none)) 0 d = barPay c d := by dsimp only [ringRd]; rw [kind_kcell]
theorem payload_xfer (c : Dev nD) (x : XI) (d : Bool) : (ringRd X W).payload (kcell (c, some x)) 0 d = xferPay X W c x := by dsimp only [ringRd]; rw [kind_kcell]

theorem rest_bar (c : Dev nD) : bigSep ((ringRd X W).duties (kcell (c, none)) 0 \ ∅) (fun d => (ringRd X W).payload (kcell (c, none)) 0 d)
    = bigSep Finset.univ (fun d => barPay (F := F) c d) := by
  rw [Finset.sdiff_empty, duties_bar]
  exact congrArg (bigSep Finset.univ) (funext fun d => payload_bar X W c d)
theorem rest_xfer (c : Dev nD) (x : XI) : bigSep ((ringRd X W).duties (kcell (c, some x)) 0 \ ∅) (fun d => (ringRd X W).payload (kcell (c, some x)) 0 d)
    = xferPay X W c x := by
  rw [Finset.sdiff_empty, duties_xfer, bigSep_singleton, payload_xfer]

/-! ## What each device owes; the order of the waits -/

/-- The receivers' cells of the pieces `l` of hop `h` at the neighbours of `c`, on top of `O`. -/
def OL (c : Dev nD) (h : Fin 3) : List Piece → CellTallies nD τ sig Unit → CellTallies nD τ sig Unit
  | [], O => O
  | p :: l, O => OL c h l O + tallyAt (kcell (tgt p.2 c, some (true, h, p))) () N

/-- What is owed once the meeting's signals are out, before the first hop. -/
def O₂ (c : Dev nD) : CellTallies nD τ sig Unit := OL c 0 pieces (OL c 1 pieces (OL c 2 pieces 0))
def O₁ (c : Dev nD) : CellTallies nD τ sig Unit := O₂ c + tallyAt (kcell (frm true c, none)) () 1
def O₀ (c : Dev nD) : CellTallies nD τ sig Unit := O₁ c + tallyAt (kcell (frm false c, none)) () 1

def L (g : GSem nD τ sig) : Finset Unit := if g.1.2 = .tc then {()} else ∅
/-- The meeting first, then the hops in their order; below them the waits that nobody else's progress depends on. -/
def lv (g : GSem nD τ sig) (_ : Unit) : ℕ := match kind g with | some none => 1 | some (some (true, h, _)) => 2 + h.val | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (kcell (c, none)) u = 1 := by unfold lv; rw [kind_kcell]
theorem lv_recv (c : Dev nD) (h : Fin 3) (p : Piece) (u : Unit) : lv (kcell (c, some (true, h, p))) u = 2 + h.val := by unfold lv; rw [kind_kcell]
theorem lv_send (c : Dev nD) (h : Fin 3) (p : Piece) (u : Unit) : lv (kcell (c, some (false, h, p))) u = 0 := by unfold lv; rw [kind_kcell]

/-- Everything owed lies above level `n`. -/
def Above (n : ℕ) (O : CellTallies nD τ sig Unit) : Prop := ∀ g u, 0 < O g u → u ∈ L g ∧ n < lv g u

theorem above_zero (n : ℕ) : Above n 0 := fun g u h => absurd h (Nat.lt_irrefl 0)
theorem above_tally {n : ℕ} (g : GSem nD τ sig) (k : ℕ) (hg : () ∈ L g) (hn : n < lv g ()) : Above n (tallyAt g () k) := fun g' u h => by
  rw [tallyAt_apply] at h
  by_cases e : g' = g ∧ u = ()
  · rw [e.1]; exact ⟨hg, hn⟩
  · rw [if_neg e] at h; exact absurd h (Nat.lt_irrefl 0)
theorem above_add {n : ℕ} {O O' : CellTallies nD τ sig Unit} (h : Above n O) (h' : Above n O') : Above n (O + O') := fun g u hp => by
  rw [Pi.add_apply, Finsupp.add_apply] at hp
  rcases Nat.eq_zero_or_pos (O g u) with e | e
  · exact h' g u (by omega)
  · exact h g u e
theorem above_OL {n : ℕ} (c : Dev nD) (h : Fin 3) (hn : n < 2 + h.val) {O : CellTallies nD τ sig Unit} (hO : Above n O) :
    ∀ l, Above n (OL c h l O)
  | [] => hO
  | p :: l => above_add (above_OL c h hn hO l) (above_tally _ _ (by rw [L_tc]; exact Finset.mem_singleton_self _) (by rw [lv_recv]; exact hn))

omit [FloatOps F] in
/-- A wait is allowed where everything owed lies above it. -/
theorem mayWait_above (c : Dev nD) (sm : SemLoc sig) (n : ℕ) (hsm : lv ((c : Thread nD τ), sm) () ≤ n) (O : CellTallies nD τ sig Unit) (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => (hO g u hg).1)
    (fun p hp => by rw [Finset.mem_singleton.mp hp]; exact hsm)
    (fun g u hg => (hO g u hg).2)

/-! ## What each device starts from -/

/-- The invariants of all cells, and that their only round is open. -/
def records (K : Dev nD × KI → ℕ) : sProp 𝕄 :=
  iprop((bigSep Finset.univ fun ck => cellInv ER (ringRd X W) (K ck) (kcell ck)) ∗ bigSep Finset.univ fun ck : Dev nD × KI => reached ER (kcell ck) 0)

instance records_persistent (K : Dev nD × KI → ℕ) : BI.Persistent (records X W K) := by unfold records; infer_instance

theorem inv_at (K : Dev nD × KI → ℕ) (ck : Dev nD × KI) : records X W K ⊢ cellInv ER (ringRd X W) (K ck) (kcell ck) := by
  unfold records
  exact Laws.sep_elim_left.trans (bigSep_elim (Finset.mem_univ ck))
theorem reached_at (K : Dev nD × KI → ℕ) (ck : Dev nD × KI) : records X W K ⊢ reached ER (kcell ck) 0 := by
  unfold records
  exact Laws.sep_elim_right.trans (bigSep_elim (Finset.mem_univ ck))

/-- What every step of the body may use again and again. -/
def base (K : Dev nD × KI → ℕ) : sProp 𝕄 := iprop(records X W K ∗ levAts L lv)
instance base_persistent (K : Dev nD × KI → ℕ) : BI.Persistent (base X W K) := by unfold base; infer_instance

end Cert.KernelIdeal.Walk

end
-- ==== Proof.Ideal.Steps.lean ====
/-
The steps of the body, one piece at a time, and the loops that run them through all pieces.
-/
module

public import proofs.«01_k».proof.Proof.Ideal.Sched

@[expose] public section

noncomputable section

namespace Cert.KernelIdeal.Walk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The weakest precondition of a program on device `c`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A loop over a list: each step turns what its element needs into what it leaves, and the common state `S` of the
    elements still to come into that of those after it. -/
theorem run_seqL {ι : Type} (c : Dev nD) (f : ι → Prog (TpuEff nD τ sig (Elt F) Λ₀ .tc) PUnit) (R : sProp 𝕄) [BI.Persistent R]
    (Pre Post : ι → sProp 𝕄) (S : List ι → sProp 𝕄)
    (hstep : ∀ p l (Kt : PUnit → sProp 𝕄), iprop(R ∗ S (p :: l) ∗ Pre p ∗ (Post p -∗ S l -∗ Kt ⟨⟩)) ⊢ run c (f p) Kt) :
    ∀ l (Kt : PUnit → sProp 𝕄), iprop(R ∗ S l ∗ bigSepL l Pre ∗ (bigSepL l Post -∗ S [] -∗ Kt ⟨⟩)) ⊢ run c (seqL f l) Kt
  | [], Kt => by
    unfold seqL run
    rw [Prog.pure_eq_ret, wp_ret]
    iintro ⟨#HR, HS, -, Hk⟩
    imodintro
    iapply Hk $$ [] HS
    unfold bigSepL
    iempintro
  | p :: l, Kt => by
    unfold seqL run
    rw [wp_bind, bigSepL_cons', bigSepL_cons']
    iintro ⟨#HR, HS, ⟨Hp, Hl⟩, Hk⟩
    iapply (hstep p l)
    isplitr; · iexact HR
    isplitl [HS]; · iexact HS
    isplitl [Hp]; · iexact Hp
    iintro Hp HS
    iapply (run_seqL c f R Pre Post S hstep l)
    isplitr; · iexact HR
    isplitl [HS]; · iexact HS
    isplitl [Hl]; · iexact Hl
    iintro Hl HS
    iapply Hk $$ [Hp Hl] HS
    isplitl [Hp]; · iexact Hp
    iexact Hl

variable (X : Dev nD → XC F) (W : Dev nD → WC F) (K : Dev nD × KI → ℕ)

/-- What a transfer needs besides its source: the duties it pays, and the place it lands in. -/
def slotTok (c : Dev nD) (h : Fin 3) (p : Piece) : sProp 𝕄 :=
  iprop(dutyTok ER (kcell (c, some (false, h, p))) 0 false ∗ dutyTok ER (kcell (tgt p.2 c, some (true, h, p))) 0 false
    ∗ blkAny (F := F) (tgt p.2 c) p.2 h.succ p.1)
/-- What a wait for an arrival, and for a departure, needs. -/
def recvTok (c : Dev nD) (h : Fin 3) (p : Piece) : sProp 𝕄 :=
  iprop(cred (tallyAt (kcell (c, some (true, h, p))) () N) ∗ atPos ER (kcell (c, some (true, h, p))) 0 ∅ 0)
def sentTok (c : Dev nD) (h : Fin 3) (p : Piece) : sProp 𝕄 := cred (tallyAt (kcell (c, some (false, h, p))) () N)
/-- A cell whose only round is over. -/
def done (c : Dev nD) (x : XI) : sProp 𝕄 := atPos ER (kcell (c, some x)) 1 ∅ 0

/-- One transfer. -/
theorem run_send (c : Dev nD) (h : Fin 3) (p : Piece) (O : CellTallies nD τ sig Unit) (V : Waits sig Unit) (fs : BufC F p.2)
    (hfs : rd p.2 h.castSucc p.1 fs = sent X W h p c) (Kt : PUnit → sProp 𝕄) :
    iprop(base X W K ∗ blk c p.2 h.castSucc p.1 fs ∗ slotTok c h p ∗ owes (c : Thread nD τ) (O + tallyAt (kcell (tgt p.2 c, some (true, h, p))) () N) V
        ∗ (sentTok c h p -∗ owes (c : Thread nD τ) O V -∗ Kt ⟨⟩))
      ⊢ run c (sendP c h p) Kt := by
  unfold base slotTok run sendP blkAny
  rw [Prog.lift]
  iintro ⟨#⟨Hrec, Hlev⟩, Hsrc, ⟨HtS, HtV, ⟨%fd, Hdst⟩⟩, HO, Hk⟩
  ihave #HI1 := (inv_at X W K (c, some (false, h, p))) $$ Hrec
  ihave #HI2 := (inv_at X W K (tgt p.2 c, some (true, h, p))) $$ Hrec
  ihave #Hr1 := (reached_at X W K (c, some (false, h, p))) $$ Hrec
  ihave #Hr2 := (reached_at X W K (tgt p.2 c, some (true, h, p))) $$ Hrec
  unfold blk
  iapply (Rounds.wp_send_pointsTo 𝒱₀ ER (ringRd X W) (c : Thread nD τ) none (c' := (tgt p.2 c : Thread nD τ))
    (src := sq p.2 h.castSucc p.1) (dst := sq p.2 h.succ p.1)
    (κ₁ := K (c, some (false, h, p))) (κ₂ := K (tgt p.2 c, some (true, h, p)))
    (r₁ := 0) (r₂ := 0) (d₁ := false) (d₂ := false) (fs := fs) (fd := fd) (q := fullShare)
    (by rw [duties_xfer X W c (false, h, p)]; exact Finset.mem_singleton_self _)
    (by rw [duties_xfer X W (tgt p.2 c) (true, h, p)]; exact Finset.mem_singleton_self _)
    () () N rfl (amount_xfer X W c (false, h, p) false) (amount_xfer X W (tgt p.2 c) (true, h, p) false) O rfl (W := V)
    (by
      rw [payload_xfer X W c (false, h, p)]; unfold xferPay blkAny blk
      rw [if_neg Bool.false_ne_true]
      iintro H; iexists fs; iexact H)
    (by
      rw [payload_xfer X W (tgt p.2 c) (true, h, p)]; unfold xferPay blkIs blk
      rw [if_pos rfl]
      iintro H
      iexists (sq p.2 h.succ p.1).view.write (Elt F) fd ((sq p.2 h.castSucc p.1).view.read (Elt F) fs) Finset.univ
      isplitr
      · ipureintro
        rw [frm_tgt]
        exact (rd_landed p.2 h.succ p.1 fd _).trans hfs
      · iexact H)) $$ [Hsrc HtS HtV Hdst HO]
  · isplitr; · iexact HI1
    isplitr; · iexact HI2
    isplitl [Hsrc]; · iexact Hsrc
    isplitl [Hdst]; · iexact Hdst
    isplitl [HO]; · iexact HO
    isplitl [HtS]; · iexact HtS
    isplitr; · iexact Hr1
    isplitl [HtV]; · iexact HtV
    iexact Hr2
  iintro ⟨Hc, HO⟩
  rw [wp_ret]
  imodintro
  unfold sentTok
  iapply Hk $$ Hc HO

/-- The wait for an arrival. -/
theorem run_recv (c : Dev nD) (h : Fin 3) (p : Piece) (O : CellTallies nD τ sig Unit) (V : Waits sig Unit) (hO : Above (2 + h.val) O)
    (Kt : PUnit → sProp 𝕄) :
    iprop(base X W K ∗ recvTok c h p ∗ owes (c : Thread nD τ) O V
        ∗ (done (F := F) c (true, h, p) -∗ blkIs c p.2 h.succ p.1 (sent X W h p (frm p.2 c))
            -∗ owes (c : Thread nD τ) O (insert (csem (some (true, h, p)), ()) V) -∗ Kt ⟨⟩))
      ⊢ run c (recvW h p) Kt := by
  unfold base recvTok run recvW
  rw [Prog.lift]
  iintro ⟨#⟨Hrec, Hlev⟩, ⟨Hc, Hat⟩, HO, Hk⟩
  ihave #HI := (inv_at X W K (c, some (true, h, p))) $$ Hrec
  iapply (Rounds.wp_wait_rest_token 𝒱₀ ER (ringRd X W) (c : Thread nD τ) none (sm := csem (some (true, h, p))) (κ := K (c, some (true, h, p)))
      (w := .waitDma2 (xsem true h p) (sq p.2 h.castSucc p.1) (sq p.2 h.succ p.1) ((View.wordExact_bits rfl).reshape _ _) ((View.wordExact_bits rfl).reshape _ _))
      (wpE_waitDma2_eq 𝒱₀ (c : Thread nD τ) none Set.univ) (Set.mem_univ _) () (O := O) (W := V) (R := 0) (m := 0) (T := ∅)
      (by rw [Nat.zero_add]; exact (expect_xfer X W c (true, h, p)).symm)) $$ [Hc HO Hat]
  · isplitr; · iexact HI
    isplitl [Hc]; · iexact Hc
    isplitl [HO]; · iexact HO
    isplitr
    · iapply (mayWait_above c _ (2 + h.val) (le_of_eq (lv_recv c h p ())) O hO); iexact Hlev
    iexact Hat
  iintro ⟨HO, Hat, -, Hpay⟩
  ihave Hp := (Entails.of_eq ((rest_xfer X W c (true, h, p)).trans (if_pos rfl))) $$ Hpay
  rw [wp_ret]
  imodintro
  unfold done
  iapply Hk $$ Hat Hp HO

/-- The wait for a departure, all debts paid. -/
theorem run_sendW (c : Dev nD) (h : Fin 3) (p : Piece) (V : Waits sig Unit) (Kt : PUnit → sProp 𝕄) :
    iprop(base X W K ∗ sentTok c h p ∗ atPos ER (kcell (c, some (false, h, p))) 0 ∅ 0 ∗ owes (c : Thread nD τ) 0 V
        ∗ (done (F := F) c (false, h, p) -∗ blkAny (F := F) c p.2 h.castSucc p.1
            -∗ owes (c : Thread nD τ) 0 (insert (csem (some (false, h, p)), ()) V) -∗ Kt ⟨⟩))
      ⊢ run c (sendW h p) Kt := by
  unfold base sentTok run sendW
  rw [Prog.lift]
  iintro ⟨#⟨Hrec, Hlev⟩, Hc, Hat, HO, Hk⟩
  ihave #HI := (inv_at X W K (c, some (false, h, p))) $$ Hrec
  iapply (Rounds.wp_wait_rest_token 𝒱₀ ER (ringRd X W) (c : Thread nD τ) none (sm := csem (some (false, h, p))) (κ := K (c, some (false, h, p)))
      (w := .waitDma2 (xsem false h p) (sq p.2 h.succ p.1) (sq p.2 h.castSucc p.1) ((View.wordExact_bits rfl).reshape _ _) ((View.wordExact_bits rfl).reshape _ _))
      (wpE_waitDma2_eq 𝒱₀ (c : Thread nD τ) none Set.univ) (Set.mem_univ _) () (O := 0) (W := V) (R := 0) (m := 0) (T := ∅)
      (by rw [Nat.zero_add]; exact (expect_xfer X W c (false, h, p)).symm)) $$ [Hc HO Hat]
  · isplitr; · iexact HI
    isplitl [Hc]; · iexact Hc
    isplitl [HO]; · iexact HO
    isplitr
    · rw [MayWait_zero]; iempintro
    iexact Hat
  iintro ⟨HO, Hat, -, Hpay⟩
  ihave Hp := (Entails.of_eq ((rest_xfer X W c (false, h, p)).trans (if_neg Bool.false_ne_true))) $$ Hpay
  rw [wp_ret]
  imodintro
  unfold done
  iapply Hk $$ Hat Hp HO

/-- One piece of a hop received, added to and sent on. -/
theorem run_acc (c : Dev nD) (h h' : Fin 3) (hh : h.succ = h'.castSucc) (add : Piece → FVec F S128x1024 .f32)
    (hs : ∀ p, sent X W h' p c = addf (sent X W h p (frm p.2 c)) (add p))
    (p : Piece) (O : CellTallies nD τ sig Unit) (V : Waits sig Unit)
    (hO : Above (2 + h.val) (O + tallyAt (kcell (tgt p.2 c, some (true, h', p))) () N)) (Kt : PUnit → sProp 𝕄) :
    iprop(base X W K ∗ recvTok c h p ∗ slotTok c h' p ∗ owes (c : Thread nD τ) (O + tallyAt (kcell (tgt p.2 c, some (true, h', p))) () N) V
        ∗ (done (F := F) c (true, h, p) -∗ sentTok c h' p -∗ owes (c : Thread nD τ) O (insert (csem (some (true, h, p)), ()) V) -∗ Kt ⟨⟩))
      ⊢ run c (accP c h h' add p) Kt := by
  unfold run accP
  rw [wp_bind]
  iintro ⟨#HB, Hr, Hs, HO, Hk⟩
  iapply (run_recv X W K c h p _ V hO)
  isplitr; · iexact HB
  isplitl [Hr]; · iexact Hr
  isplitl [HO]; · iexact HO
  iintro Hd Hb HO
  unfold blkIs
  icases Hb with ⟨%f, %hf, Hb⟩
  unfold ldB blk
  simp only [Prog.lift, Prog.bind_op, Prog.bind_ret]
  iapply (wp_load_rect 𝒱₀ (c : Thread nD τ) none Set.univ (m := buf p.2) (r := rBlk h.succ p.1) (f := f) (le_of_eq (bset_eq p.2 h.succ p.1).symm)) $$ Hb
  iintro Hb
  iapply (wp_load_rect 𝒱₀ (c : Thread nD τ) none Set.univ (m := buf p.2) (r := rBlk h.succ p.1) (f := f) (le_of_eq (bset_eq p.2 h.succ p.1).symm)) $$ Hb
  iintro Hb
  iapply (wp_store 𝒱₀ (c : Thread nD τ) none Set.univ (m := buf p.2) (r := rBlk h.succ p.1) (f := f) (by rw [View.setOn_univ]; exact le_of_eq (bset_eq p.2 h.succ p.1).symm)) $$ Hb
  iintro Hb
  iapply (run_send X W K c h' p O _ (((buf p.2).access (rBlk h.succ p.1)).write (Elt F) f
      (shapeCast S1x128x1024 (addf (shapeCast S128x1024 (((buf p.2).access (rBlk h.succ p.1)).read (Elt F) f) shapeCasts_S1x128x1024_S128x1024) (add p)) shapeCasts_S128x1024_S1x128x1024)
      Finset.univ) (by
        rw [← hh, rd_store, rd_load, hf, hs]))
  isplitr; · iexact HB
  isplitl [Hb]; · rw [← hh]; unfold blk; iexact Hb
  isplitl [Hs]; · iexact Hs
  isplitl [HO]; · iexact HO
  iintro Hc HO
  iapply Hk $$ Hd Hc HO

/-- The last hop of one piece received and its result stored. -/
theorem run_out (c : Dev nD) (add : Piece → FVec F S128x1024 .f32) (p : Piece) (V : Waits sig Unit)
    (fo : Buf (Elt F) ((c : Thread nD τ).loc cc0_stg2_0)) (Kt : PUnit → sProp 𝕄) :
    iprop(base X W K ∗ recvTok c 2 p ∗ owes (c : Thread nD τ) 0 V ∗ (((c : Thread nD τ).loc cc0_stg2_0) ↦{fullShare} fo)
        ∗ (done (F := F) c (true, 2, p) -∗ blkAny (F := F) c p.2 3 p.1 -∗ owes (c : Thread nD τ) 0 (insert (csem (some (true, 2, p)), ()) V)
          -∗ (((c : Thread nD τ).loc cc0_stg2_0) ↦{fullShare} (((oM : Memref sig .tc .vmem S512x2048 .f32).access (rOut p)).write (Elt F) fo
              (maximumf (addf (sent X W 2 p (frm p.2 c)) (add p)) (constant S128x1024 .f32 0x00000000#32)) Finset.univ)) -∗ Kt ⟨⟩))
      ⊢ run c (outP add p) Kt := by
  unfold run outP
  rw [wp_bind]
  iintro ⟨#HB, Hr, HO, Ho, Hk⟩
  iapply (run_recv X W K c 2 p _ V (above_zero _))
  isplitr; · iexact HB
  isplitl [Hr]; · iexact Hr
  isplitl [HO]; · iexact HO
  iintro Hd Hb HO
  unfold blkIs
  icases Hb with ⟨%f, %hf, Hb⟩
  unfold ldB blk
  rw [show Fin.succ (2 : Fin 3) = (3 : Fin 4) from rfl] at *
  simp only [Prog.lift, Prog.bind_op, Prog.bind_ret]
  iapply (wp_load_rect 𝒱₀ (c : Thread nD τ) none Set.univ (m := buf p.2) (r := rBlk 3 p.1) (f := f) (le_of_eq (bset_eq p.2 3 p.1).symm)) $$ Hb
  iintro Hb
  iapply (wp_load_rect 𝒱₀ (c : Thread nD τ) none Set.univ (m := oM) (r := rOut p) (f := fo) (Finset.subset_univ _)) $$ Ho
  iintro Ho
  iapply (wp_store 𝒱₀ (c : Thread nD τ) none Set.univ (m := oM) (r := rOut p) (f := fo) (Finset.subset_univ _)) $$ Ho
  iintro Ho
  rw [rd_load p.2 3 p.1 f, show rd p.2 3 p.1 f = _ from hf, wp_ret]
  imodintro
  iapply Hk $$ Hd [Hb] HO Ho
  unfold blkAny blk
  iexists f
  iexact Hb

end Cert.KernelIdeal.Walk

end
-- ==== Proof.Ideal.Body.lean ====
/-
What the body of one device holds: its buffers cut into row blocks and put together again, its loads of the operands,
the filling of the first slots, and the meeting with its neighbours.
-/
module

public import proofs.«01_k».proof.Proof.Ideal.Steps

@[expose] public section

noncomputable section

namespace Cert.KernelIdeal.Walk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Families over hops, pieces and semaphores -/

theorem sum2 (Φ : Bool → sProp 𝕄) : bigSep Finset.univ Φ = iprop(Φ false ∗ Φ true) := bigSep_univ_eq_bigSepL [false, true] (by decide) (by decide) Φ
theorem sum3 (Φ : Fin 3 → sProp 𝕄) : bigSep Finset.univ Φ = iprop(Φ 0 ∗ Φ 1 ∗ Φ 2) := bigSep_univ_eq_bigSepL [0, 1, 2] (by decide) (by decide) Φ
theorem sum4 (Φ : Fin 4 → sProp 𝕄) : bigSep Finset.univ Φ = iprop(Φ 0 ∗ bigSep Finset.univ fun h : Fin 3 => Φ h.succ) := by
  rw [sum3]; exact bigSep_univ_eq_bigSepL [0, 1, 2, 3] (by decide) (by decide) Φ
theorem sumP (Φ : Piece → sProp 𝕄) : bigSep Finset.univ Φ = bigSepL pieces Φ := bigSep_univ_eq_bigSepL pieces pieces_univ pieces_nodup Φ
theorem sumHP (Φ : Fin 3 × Piece → sProp 𝕄) :
    bigSep Finset.univ Φ = iprop(bigSepL pieces (fun p => Φ (0, p)) ∗ bigSepL pieces (fun p => Φ (1, p)) ∗ bigSepL pieces (fun p => Φ (2, p))) := by
  rw [bigSep_univ_prod, sum3, sumP, sumP, sumP]
theorem sumX (Φ : XI → sProp 𝕄) :
    bigSep Finset.univ Φ = iprop((bigSep Finset.univ fun hp => Φ (false, hp)) ∗ bigSep Finset.univ fun hp => Φ (true, hp)) := by
  rw [bigSep_univ_prod, sum2]
theorem sumKI (Φ : KI → sProp 𝕄) : bigSep Finset.univ Φ = iprop(Φ none ∗ bigSep Finset.univ fun x : XI => Φ (some x)) := by
  rw [bigSep_univ_at Φ none, show (Finset.univ : Finset KI).erase none = (Finset.univ : Finset XI).map Function.Embedding.some by decide, bigSep_map]
  rfl
/-- Row blocks of both directions, piece by piece. -/
theorem sumDir (Ψ : Bool → Fin 4 → sProp 𝕄) :
    (bigSep Finset.univ fun d => bigSep Finset.univ fun j => Ψ d j) = bigSepL pieces fun p => Ψ p.2 p.1 := by
  rw [← sumP, bigSep_univ_equiv (Equiv.prodComm Bool (Fin 4)) (fun p : Piece => Ψ p.2 p.1), bigSep_univ_prod]; rfl
/-- The same with a hop. -/
def dirEquiv : Bool × (Fin 3 × Fin 4) ≃ Fin 3 × Piece := ⟨fun x => (x.2.1, (x.2.2, x.1)), fun x => (x.2.2, (x.1, x.2.1)), fun _ => rfl, fun _ => rfl⟩
theorem sumDir3 (Ψ : Bool → Fin 3 → Fin 4 → sProp 𝕄) :
    (bigSep Finset.univ fun d => bigSep Finset.univ fun hj : Fin 3 × Fin 4 => Ψ d hj.1 hj.2) = bigSep Finset.univ fun hp : Fin 3 × Piece => Ψ hp.2.2 hp.1 hp.2.1 := by
  rw [bigSep_univ_equiv dirEquiv (fun hp : Fin 3 × Piece => Ψ hp.2.2 hp.1 hp.2.1), bigSep_univ_prod]; rfl

/-! ## The communication buffers -/

/-- Device `c`'s two buffers, with any contents. -/
def bufs (c : Dev nD) : sProp 𝕄 := bigSep Finset.univ fun d => iprop(∃ f : BufC F d, (buf d).view.loc (c : Thread nD τ) ↦{fullShare} f)
/-- The first slot of one, with any contents. -/
def slot0 (c : Dev nD) (d : Bool) : sProp 𝕄 := iprop(∃ f : BufC F d, (buf d).view.loc (c : Thread nD τ) ↦[((buf d).access rSlot0).set]{fullShare} f)
/-- All blocks of slot `s`, with any contents. -/
def slotAny (c : Dev nD) (s : Fin 4) : sProp 𝕄 := bigSepL pieces fun p => blkAny (F := F) c p.2 s p.1

/-- A buffer held whole is its sixteen blocks, -/
theorem blk_all (c : Dev nD) (d : Bool) (f : BufC F d) :
    ((buf d).view.loc (c : Thread nD τ) ↦{fullShare} f : sProp 𝕄) = bigSep Finset.univ fun b : Fin 4 × Fin 4 => blk c d b.1 b.2 f := by
  unfold blk
  exact Ring.pointsTo_blocks (ℓ := (buf d).view.loc (c : Thread nD τ)) (fun b : Fin 4 × Fin 4 => bset d b.1 b.2) (bset_disj d) (bset_cover d) f

/-- its first slot the four blocks of that slot. -/
theorem blk_slot0 (c : Dev nD) (d : Bool) (f : BufC F d) :
    ((buf d).view.loc (c : Thread nD τ) ↦[((buf d).access rSlot0).set]{fullShare} f : sProp 𝕄) = bigSep Finset.univ fun j : Fin 4 => blk c d 0 j f := by
  unfold blk
  exact Ring.pointsTo_sub_blocks (ℓ := (buf d).view.loc (c : Thread nD τ)) (fun j : Fin 4 => bset d 0 j) (fun a b h => bset_disj d (0, a) (0, b) (fun e => h (congrArg Prod.snd e)))
      ((buf d).access rSlot0).set (slot0_cover d) f

/-- Sixteen blocks, each with contents of its own, make up a buffer. -/
theorem blk_join (c : Dev nD) (d : Bool) :
    (bigSep Finset.univ fun b : Fin 4 × Fin 4 => blkAny (F := F) c d b.1 b.2)
      ⊢ (iprop(∃ f : BufC F d, (buf d).view.loc (c : Thread nD τ) ↦{fullShare} f) : sProp 𝕄) := by
  have f₀ : BufC F d := by cases d <;> exact constant S4x512x1024 .f32 0x00000000#32
  unfold blkAny blk
  exact Ring.pointsTo_blocks_join_exists (ℓ := (buf d).view.loc (c : Thread nD τ)) (fun b : Fin 4 × Fin 4 => bset d b.1 b.2) (bset_disj d) (bset_cover d) f₀

theorem blk_any (c : Dev nD) (d : Bool) (s j : Fin 4) (f : BufC F d) : blk c d s j f ⊢ blkAny (F := F) c d s j := by
  unfold blkAny
  iintro H; iexists f; iexact H

/-- A buffer is its first slot and the landing places that go to the neighbour. -/
theorem buf_split (c : Dev nD) (d : Bool) :
    iprop(∃ f : BufC F d, (buf d).view.loc (c : Thread nD τ) ↦{fullShare} f) ⊢ (iprop(slot0 (F := F) c d ∗ barPay (frm d c) d) : sProp 𝕄) := by
  unfold slot0 barPay
  rw [tgt_frm]
  iintro ⟨%f, H⟩
  ihave H := (Entails.of_eq ((blk_all c d f).trans ((bigSep_univ_prod _).trans (sum4 _)))) $$ H
  icases H with ⟨H0, H1⟩
  isplitl [H0]
  · iexists f
    iapply (Entails.of_eq (blk_slot0 c d f).symm)
    iexact H0
  · iapply (Entails.of_eq (bigSep_univ_prod (fun hj : Fin 3 × Fin 4 => blkAny (F := F) c d hj.1.succ hj.2)).symm)
    iapply ((Entails.of_eq rfl).trans (bigSep_mono (s := (Finset.univ : Finset (Fin 3))) (fun h _ => bigSep_mono (s := (Finset.univ : Finset (Fin 4))) (fun j _ => blk_any c d h.succ j f))))
    iexact H1

theorem bufs_split (c : Dev nD) :
    bufs (F := F) c ⊢ iprop((slot0 (F := F) c false ∗ slot0 (F := F) c true) ∗ barPay (frm false c) false ∗ barPay (frm true c) true) := by
  unfold bufs
  rw [sum2]
  iintro ⟨H0, H1⟩
  ihave H0 := (buf_split c false) $$ H0
  ihave H1 := (buf_split c true) $$ H1
  icases H0 with ⟨H0, H0'⟩
  icases H1 with ⟨H1, H1'⟩
  isplitl [H0 H1]
  · isplitl [H0]; · iexact H0
    iexact H1
  isplitl [H0']; · iexact H0'
  iexact H1'

/-- All blocks of all slots make up the buffers again. -/
theorem bufs_join (c : Dev nD) : (bigSep Finset.univ fun s => slotAny (F := F) c s) ⊢ bufs (F := F) c := by
  have e (s : Fin 4) : slotAny (F := F) c s = bigSep Finset.univ fun d => bigSep Finset.univ fun j => blkAny (F := F) c d s j := by
    unfold slotAny; exact (sumDir fun d j => blkAny (F := F) c d s j).symm
  rw [bigSep_congr fun s _ => e s, bigSep_univ_comm]
  unfold bufs
  refine bigSep_mono fun d _ => ?_
  rw [← bigSep_univ_prod (fun b : Fin 4 × Fin 4 => blkAny (F := F) c d b.1 b.2)]
  exact blk_join c d

/-! ## The parts of the body -/

variable (X : Dev nD → XC F) (W : Dev nD → WC F) (K : Dev nD × KI → ℕ)

/-- The staged operands of device `c`. -/
def opX (c : Dev nD) : sProp 𝕄 := ((c : Thread nD τ).loc cc0_stg0_0) ↦{fullShare} X c
def opW (c : Dev nD) : sProp 𝕄 := ((c : Thread nD τ).loc cc0_stg1_0) ↦{fullShare} W c

theorem run_ldX (c : Dev nD) (off : Fin 2 → Nat) (h : ∀ a, off a + S512x512.size a ≤ S2048x512.size a) (Kt : Vec F S512x512 .f32 → sProp 𝕄) :
    iprop(opX X c ∗ (opX X c -∗ Kt (lx X c off h))) ⊢ run c (ldX off h) Kt := by
  unfold opX run ldX lx
  rw [Prog.lift]
  iintro ⟨H, Hk⟩
  iapply (wp_load_rect 𝒱₀ (c : Thread nD τ) none Set.univ (m := xM) (r := Rect.unit (s := S2048x512) off S512x512.size h) (f := X c) (Finset.subset_univ _)) $$ H
  iintro H
  rw [wp_ret]
  imodintro
  iapply Hk $$ H
theorem run_ldW (c : Dev nD) (Kt : Vec F S512x2048 .f32 → sProp 𝕄) : iprop(opW W c ∗ (opW W c -∗ Kt (lw W c))) ⊢ run c ldW Kt := by
  unfold opW run ldW lw
  rw [Prog.lift]
  iintro ⟨H, Hk⟩
  iapply (wp_load_rect 𝒱₀ (c : Thread nD τ) none Set.univ (m := wM) (r := Rect.unit (s := S512x2048) ![0, 0] S512x2048.size inb_S512x2048_S512x2048_0_0) (f := W c) (Finset.subset_univ _)) $$ H
  iintro H
  rw [wp_ret]
  imodintro
  iapply Hk $$ H
theorem run_ldWL (c : Dev nD) (Kt : Vec F S512x1024 .f32 → sProp 𝕄) : iprop(opW W c ∗ (opW W c -∗ Kt (lwl W c))) ⊢ run c ldWL Kt := by
  unfold opW run ldWL lwl
  rw [Prog.lift]
  iintro ⟨H, Hk⟩
  iapply (wp_load_rect 𝒱₀ (c : Thread nD τ) none Set.univ (m := wM) (r := Rect.unit (s := S512x2048) ![0, 0] S512x1024.size inb_S512x2048_S512x1024_0_0) (f := W c) (Finset.subset_univ _)) $$ H
  iintro H
  rw [wp_ret]
  imodintro
  iapply Hk $$ H
theorem run_ldWR (c : Dev nD) (Kt : Vec F S512x1024 .f32 → sProp 𝕄) : iprop(opW W c ∗ (opW W c -∗ Kt (lwr W c))) ⊢ run c ldWR Kt := by
  unfold opW run ldWR lwr
  rw [Prog.lift]
  iintro ⟨H, Hk⟩
  iapply (wp_load_rect 𝒱₀ (c : Thread nD τ) none Set.univ (m := wM) (r := Rect.unit (s := S512x2048) ![0, 1024] S512x1024.size inb_S512x2048_S512x1024_0_1024) (f := W c) (Finset.subset_univ _)) $$ H
  iintro H
  rw [wp_ret]
  imodintro
  iapply Hk $$ H

/-- The first slot of a buffer filled. -/
theorem run_fill (c : Dev nD) (d : Bool) (y : FVec F S1x512x1024 .f32) (Kt : PUnit → sProp 𝕄) :
    iprop(slot0 (F := F) c d ∗ ((bigSep Finset.univ fun j => blkIs c d 0 j (cut j y)) -∗ Kt ⟨⟩)) ⊢ run c (fillP d y) Kt := by
  unfold slot0 run fillP
  simp only [Prog.lift, Prog.bind_op, Prog.bind_ret]
  iintro ⟨⟨%f, H⟩, Hk⟩
  iapply (wp_load_rect 𝒱₀ (c : Thread nD τ) none Set.univ (m := buf d) (r := rSlot0) (f := f) (le_refl _)) $$ H
  iintro H
  iapply (wp_store 𝒱₀ (c : Thread nD τ) none Set.univ (m := buf d) (r := rSlot0) (f := f) (by rw [View.setOn_univ])) $$ H
  iintro H
  rw [wp_ret]
  imodintro
  ihave H := (Entails.of_eq (blk_slot0 c d _)) $$ H
  iapply Hk
  iapply ((Entails.of_eq rfl).trans (bigSep_mono (s := (Finset.univ : Finset (Fin 4))) fun j _ => show blk c d 0 j (((buf d).access rSlot0).write (Elt F) f y Finset.univ) ⊢ blkIs c d 0 j (cut j y) from by
    unfold blkIs
    iintro H
    iexists (((buf d).access rSlot0).write (Elt F) f y Finset.univ)
    isplitr
    · ipureintro; exact rd_fill d j f y
    · iexact H))
  iexact H

/-- The meeting: both neighbours' landing places come, its own go. -/
theorem run_meet (c : Dev nD) (V : Waits sig Unit) (Kt : PUnit → sProp 𝕄) :
    iprop(base X W K ∗ (dutyTok ER (kcell (frm false c, none)) 0 false ∗ dutyTok ER (kcell (frm true c, none)) 0 true)
        ∗ (barPay (frm false c) false ∗ barPay (frm true c) true)
        ∗ cred (tallyAt (kcell (c, none)) () 2) ∗ atPos ER (kcell (c, none)) 0 ∅ 0 ∗ owes (c : Thread nD τ) (O₀ c) V
        ∗ (atPos ER (kcell (c, none)) 1 ∅ 0 -∗ (bigSep Finset.univ fun hp : Fin 3 × Piece => blkAny (F := F) (tgt hp.2.2 c) hp.2.2 hp.1.succ hp.2.1)
          -∗ owes (c : Thread nD τ) (O₂ c) (insert (csem none, ()) V) -∗ Kt ⟨⟩))
      ⊢ run c (meetP c) Kt := by
  unfold base run meetP O₀ O₁
  simp only [semSignalWord, semWaitWord, Prog.lift, Prog.bind_op, Prog.bind_ret, dev1_eq c, dev2_eq c]
  iintro ⟨#⟨Hrec, Hlev⟩, ⟨Ht0, Ht1⟩, ⟨Hp0, Hp1⟩, Hc, Hat, HO, Hk⟩
  ihave #HI := (inv_at X W K (c, none)) $$ Hrec
  ihave #HI0 := (inv_at X W K (frm false c, none)) $$ Hrec
  ihave #HI1 := (inv_at X W K (frm true c, none)) $$ Hrec
  ihave #Hr0 := (reached_at X W K (frm false c, none)) $$ Hrec
  ihave #Hr1 := (reached_at X W K (frm true c, none)) $$ Hrec
  iapply (Rounds.wp_signal 𝒱₀ ER (ringRd X W) (c : Thread nD τ) none (dst := (frm false c : Thread nD τ)) (sem := barS) (κ := K (frm false c, none)) (r := 0)
      (d := false) (by rw [show ((frm false c : Thread nD τ), SemLoc.reg barS) = kcell (frm false c, none) from rfl, duties_bar]; exact Finset.mem_univ _)
      ((amount_bar X W (frm false c) false).trans (by decide)) () (O₁ c) rfl (W := V)) $$ [HO Ht0 Hp0]
  · isplitr; · iexact HI0
    isplitl [HO]; · iexact HO
    isplitl [Ht0]; · iexact Ht0
    isplitl [Hp0]
    · iapply (Entails.of_eq (show barPay (frm false c) false = (ringRd X W).payload ((frm false c : Thread nD τ), SemLoc.reg barS) 0 false from (payload_bar X W (frm false c) false).symm)); iexact Hp0
    iexact Hr0
  iintro HO
  iapply (Rounds.wp_signal 𝒱₀ ER (ringRd X W) (c : Thread nD τ) none (dst := (frm true c : Thread nD τ)) (sem := barS) (κ := K (frm true c, none)) (r := 0)
      (d := true) (by rw [show ((frm true c : Thread nD τ), SemLoc.reg barS) = kcell (frm true c, none) from rfl, duties_bar]; exact Finset.mem_univ _)
      ((amount_bar X W (frm true c) true).trans (by decide)) () (O₂ c) rfl (W := V)) $$ [HO Ht1 Hp1]
  · isplitr; · iexact HI1
    isplitl [HO]; · iexact HO
    isplitl [Ht1]; · iexact Ht1
    isplitl [Hp1]
    · iapply (Entails.of_eq (show barPay (frm true c) true = (ringRd X W).payload ((frm true c : Thread nD τ), SemLoc.reg barS) 0 true from (payload_bar X W (frm true c) true).symm)); iexact Hp1
    iexact Hr1
  iintro HO
  iapply (Rounds.wp_wait_rest_token 𝒱₀ ER (ringRd X W) (c : Thread nD τ) none (sm := csem none) (κ := K (c, none))
      (wpE_semWait_eq 𝒱₀ (c : Thread nD τ) none Set.univ) (Set.mem_univ _) () (O := O₂ c) (W := V) (R := 0) (m := 0) (T := ∅)
      (by rw [expect_bar X W c]; decide)) $$ [Hc HO Hat]
  · isplitr; · iexact HI
    isplitl [Hc]; · iexact Hc
    isplitl [HO]; · iexact HO
    isplitr
    · iapply (mayWait_above c _ 1 (le_of_eq (lv_bar c ())) (O₂ c) (above_OL c 0 (by decide) (above_OL c 1 (by decide) (above_OL c 2 (by decide) (above_zero _) _) _) _))
      iexact Hlev
    iexact Hat
  iintro ⟨HO, Hat, -, Hpay⟩
  ihave Hp := (Entails.of_eq ((rest_bar X W c).trans (by
    unfold barPay
    exact sumDir3 fun d h j => blkAny (F := F) (tgt d c) d h.succ j))) $$ Hpay
  rw [wp_ret]
  imodintro
  iapply Hk $$ Hat Hp HO

end Cert.KernelIdeal.Walk

end
-- ==== Proof.Ideal.Loops.lean ====
/-
The loops of the body, and the whole body of one device: from the meeting with its neighbours to the last departure.
-/
module

public import proofs.«01_k».proof.Proof.Ideal.Body

@[expose] public section

noncomputable section

namespace Cert.KernelIdeal.Walk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → XC F) (W : Dev nD → WC F) (K : Dev nD × KI → ℕ)

/-! ## The loops -/

/-- Device `c` owes `O`, whatever it has waited for. -/
def owing (c : Dev nD) (O : CellTallies nD τ sig Unit) : sProp 𝕄 := iprop(∃ V, owes (c : Thread nD τ) O V)

/-- All pieces sent on their first hop. -/
theorem loop_send (c : Dev nD) (O : CellTallies nD τ sig Unit) (Kt : PUnit → sProp 𝕄) :
    iprop(base X W K ∗ owing c (OL c 0 pieces O) ∗ (bigSepL pieces fun p => iprop(blkIs c p.2 0 p.1 (sent X W 0 p c) ∗ slotTok c 0 p))
        ∗ (bigSepL pieces (fun p => sentTok c 0 p) -∗ owing c O -∗ Kt ⟨⟩))
      ⊢ run c (seqL (sendP c 0) pieces) Kt :=
  run_seqL c (sendP c 0) (base X W K) (fun p => iprop(blkIs c p.2 0 p.1 (sent X W 0 p c) ∗ slotTok c 0 p)) (fun p => sentTok c 0 p)
    (fun l => owing c (OL c 0 l O))
    (fun p l Kt => by
      unfold owing blkIs
      iintro ⟨#HB, ⟨%V, HO⟩, ⟨⟨%f, %hf, Hb⟩, Hs⟩, Hk⟩
      iapply (run_send X W K c 0 p (OL c 0 l O) V f hf)
      isplitr; · iexact HB
      isplitl [Hb]; · iexact Hb
      isplitl [Hs]; · iexact Hs
      isplitl [HO]; · iexact HO
      iintro Hc HO
      iapply Hk $$ Hc [HO]
      iexists V; iexact HO) pieces Kt

/-- All pieces of a hop received, added to and sent on. -/
theorem loop_acc (c : Dev nD) (h h' : Fin 3) (hlt : h < h') (hh : h.succ = h'.castSucc) (add : Piece → FVec F S128x1024 .f32)
    (hs : ∀ p, sent X W h' p c = addf (sent X W h p (frm p.2 c)) (add p))
    (O : CellTallies nD τ sig Unit) (hO : Above (2 + h.val) O) (Kt : PUnit → sProp 𝕄) :
    iprop(base X W K ∗ owing c (OL c h' pieces O) ∗ (bigSepL pieces fun p => iprop(recvTok c h p ∗ slotTok c h' p))
        ∗ (bigSepL pieces (fun p => iprop(done (F := F) c (true, h, p) ∗ sentTok c h' p)) -∗ owing c O -∗ Kt ⟨⟩))
      ⊢ run c (seqL (accP c h h' add) pieces) Kt :=
  run_seqL c (accP c h h' add) (base X W K) (fun p => iprop(recvTok c h p ∗ slotTok c h' p)) (fun p => iprop(done (F := F) c (true, h, p) ∗ sentTok c h' p))
    (fun l => owing c (OL c h' l O))
    (fun p l Kt => by
      unfold owing
      iintro ⟨#HB, ⟨%V, HO⟩, ⟨Hr, Hs⟩, Hk⟩
      iapply (run_acc X W K c h h' hh add hs p (OL c h' l O) V (above_OL c h' (Nat.add_lt_add_left hlt 2) hO (p :: l)))
      isplitr; · iexact HB
      isplitl [Hr]; · iexact Hr
      isplitl [Hs]; · iexact Hs
      isplitl [HO]; · iexact HO
      iintro Hd Hc HO
      iapply Hk $$ [Hd Hc] [HO]
      · isplitl [Hd]; · iexact Hd
        iexact Hc
      · iexists (insert (csem (some (true, h, p)), ()) V); iexact HO) pieces Kt

/-- The block of the result of device `c`, its pieces outside `l` already computed. -/
def outPart (c : Dev nD) (R : Piece → FVec F S128x1024 .f32) (l : List Piece) : sProp 𝕄 :=
  iprop(∃ f : OutC F, ⌜∀ p, p ∉ l → ro p f = R p⌝ ∗ (((c : Thread nD τ).loc cc0_stg2_0) ↦{fullShare} f))

/-- All pieces of the last hop received and their results stored. -/
theorem loop_out (c : Dev nD) (add : Piece → FVec F S128x1024 .f32) (R : Piece → FVec F S128x1024 .f32)
    (hs : ∀ p, R p = maximumf (addf (sent X W 2 p (frm p.2 c)) (add p)) (constant S128x1024 .f32 0x00000000#32)) (Kt : PUnit → sProp 𝕄) :
    iprop(base X W K ∗ (owing c 0 ∗ outPart c R pieces) ∗ (bigSepL pieces fun p => recvTok c 2 p)
        ∗ (bigSepL pieces (fun p => iprop(done (F := F) c (true, 2, p) ∗ blkAny (F := F) c p.2 3 p.1)) -∗ (owing c 0 ∗ outPart c R []) -∗ Kt ⟨⟩))
      ⊢ run c (seqL (outP add) pieces) Kt :=
  run_seqL c (outP add) (base X W K) (fun p => recvTok c 2 p) (fun p => iprop(done (F := F) c (true, 2, p) ∗ blkAny (F := F) c p.2 3 p.1))
    (fun l => iprop(owing c 0 ∗ outPart c R l))
    (fun p l Kt => by
      unfold owing outPart
      iintro ⟨#HB, ⟨⟨%V, HO⟩, ⟨%f, %hf, Ho⟩⟩, Hr, Hk⟩
      iapply (run_out X W K c add p V f)
      isplitr; · iexact HB
      isplitl [Hr]; · iexact Hr
      isplitl [HO]; · iexact HO
      isplitl [Ho]; · iexact Ho
      iintro Hd Hb HO Ho
      iapply Hk $$ [Hd Hb] [HO Ho]
      · isplitl [Hd]; · iexact Hd
        iexact Hb
      · isplitl [HO]
        · iexists (insert (csem (some (true, 2, p)), ()) V); iexact HO
        · iexists (((oM : Memref sig .tc .vmem S512x2048 .f32).access (rOut p)).write (Elt F) f
              (maximumf (addf (sent X W 2 p (frm p.2 c)) (add p)) (constant S128x1024 .f32 0x00000000#32)) Finset.univ)
          isplitr
          · ipureintro
            intro p' hp'
            by_cases e : p' = p
            · rw [e, ro_store, hs]
            · rw [ro_store_ne e, hf p' (fun hm => (List.mem_cons.mp hm).elim e hp')]
          · iexact Ho) pieces Kt

/-- All departures of a hop waited for. -/
theorem loop_sendW (c : Dev nD) (h : Fin 3) (Kt : PUnit → sProp 𝕄) :
    iprop(base X W K ∗ owing c 0 ∗ (bigSepL pieces fun p => iprop(sentTok c h p ∗ atPos ER (kcell (c, some (false, h, p))) 0 ∅ 0))
        ∗ (bigSepL pieces (fun p => iprop(done (F := F) c (false, h, p) ∗ blkAny (F := F) c p.2 h.castSucc p.1)) -∗ owing c 0 -∗ Kt ⟨⟩))
      ⊢ run c (seqL (sendW h) pieces) Kt :=
  run_seqL c (sendW h) (base X W K) (fun p => iprop(sentTok c h p ∗ atPos ER (kcell (c, some (false, h, p))) 0 ∅ 0))
    (fun p => iprop(done (F := F) c (false, h, p) ∗ blkAny (F := F) c p.2 h.castSucc p.1))
    (fun l => owing c 0)
    (fun p l Kt => by
      unfold owing
      iintro ⟨#HB, ⟨%V, HO⟩, ⟨Hc, Hat⟩, Hk⟩
      iapply (run_sendW X W K c h p V)
      isplitr; · iexact HB
      isplitl [Hc]; · iexact Hc
      isplitl [Hat]; · iexact Hat
      isplitl [HO]; · iexact HO
      iintro Hd Hb HO
      iapply Hk $$ [Hd Hb] [HO]
      · isplitl [Hd]; · iexact Hd
        iexact Hb
      · iexists (insert (csem (some (false, h, p)), ()) V); iexact HO) pieces Kt

/-! ## The body -/

theorem listSep (Φ Ψ : Piece → sProp 𝕄) : bigSepL pieces (fun p => iprop(Φ p ∗ Ψ p)) = iprop(bigSepL pieces Φ ∗ bigSepL pieces Ψ) := by
  rw [← sumP, ← sumP, ← sumP, bigSep_sep']

/-- The duties that device `c` pays, first those at the neighbours' meeting semaphores. -/
def barToks (c : Dev nD) : sProp 𝕄 := iprop(dutyTok ER (kcell (frm false c, none)) 0 false ∗ dutyTok ER (kcell (frm true c, none)) 0 true)
def xferToks (c : Dev nD) (h : Fin 3) (p : Piece) : sProp 𝕄 :=
  iprop(dutyTok ER (kcell (c, some (false, h, p))) 0 false ∗ dutyTok ER (kcell (tgt p.2 c, some (true, h, p))) 0 false)
def payToks (c : Dev nD) : sProp 𝕄 := iprop(barToks (F := F) c ∗ bigSep Finset.univ fun hp : Fin 3 × Piece => xferToks (F := F) c hp.1 hp.2)
/-- Its cells at round `r`. -/
def atAll (c : Dev nD) (r : ℕ) : sProp 𝕄 := bigSep Finset.univ fun k : KI => atPos ER (kcell (c, k)) r ∅ 0
/-- The credit that it waits with, apart from what its own transfers bring. -/
def creds (c : Dev nD) : sProp 𝕄 :=
  iprop(cred (tallyAt (kcell (c, none)) () 2) ∗ bigSep Finset.univ fun hp : Fin 3 × Piece => cred (tallyAt (kcell (c, some (true, hp))) () N))

/-- What the transfers need, hop by hop, from the duties and the neighbours' landing places. -/
theorem slots_intro (c : Dev nD) :
    iprop((bigSep Finset.univ fun hp : Fin 3 × Piece => xferToks (F := F) c hp.1 hp.2)
        ∗ bigSep Finset.univ fun hp : Fin 3 × Piece => blkAny (F := F) (tgt hp.2.2 c) hp.2.2 hp.1.succ hp.2.1)
      ⊢ (iprop(bigSepL pieces (slotTok (F := F) c 0) ∗ bigSepL pieces (slotTok (F := F) c 1) ∗ bigSepL pieces (slotTok (F := F) c 2)) : sProp 𝕄) := by
  rw [← bigSep_sep', ← sumHP fun hp => slotTok (F := F) c hp.1 hp.2]
  refine bigSep_mono fun hp _ => show iprop(xferToks (F := F) c hp.1 hp.2 ∗ _) ⊢ slotTok (F := F) c hp.1 hp.2 from ?_
  unfold xferToks slotTok
  iintro ⟨⟨H1, H2⟩, H3⟩
  isplitl [H1]; · iexact H1
  isplitl [H2]; · iexact H2
  iexact H3

/-- What the waits for arrivals need, hop by hop. -/
theorem recvs_intro (c : Dev nD) :
    iprop((bigSep Finset.univ fun hp : Fin 3 × Piece => cred (tallyAt (kcell (c, some (true, hp))) () N))
        ∗ bigSep Finset.univ fun hp : Fin 3 × Piece => atPos ER (kcell (c, some (true, hp))) 0 ∅ 0)
      ⊢ (iprop(bigSepL pieces (recvTok (F := F) c 0) ∗ bigSepL pieces (recvTok (F := F) c 1) ∗ bigSepL pieces (recvTok (F := F) c 2)) : sProp 𝕄) := by
  rw [← bigSep_sep', ← sumHP fun hp => recvTok (F := F) c hp.1 hp.2]
  exact Entails.of_eq rfl

/-- All cells of a device closed: every counter is zero. -/
theorem close_all (c : Dev nD) :
    iprop(records X W K ∗ atAll (F := F) c 1) ⊢ |={Set.univ}=> bigSep Finset.univ fun k : KI => (semVal (kcell (c, k)) 0 : sProp 𝕄) := by
  unfold atAll
  refine (bigSep_with_persistent fun k _ => ?_).trans (bigSep_fupd _ _)
  iintro ⟨#HR, Hat⟩
  ihave #HI := (inv_at X W K (c, k)) $$ HR
  iapply (Rounds.cell_close ER (ringRd X W) (Set.mem_univ (K (c, k))) (fun h => h) (R := 1) (duties_later X W (kcell (c, k))))
  isplitr; · iexact HI
  iexact Hat

/-- Before the body: the permanent facts, the ring's state, both buffers, the staged operands and the block of the result. -/
def bodyStart (c : Dev nD) : sProp 𝕄 :=
  iprop(base X W K ∗ atAll (F := F) c 0 ∗ payToks (F := F) c ∗ creds (F := F) c ∗ bufs (F := F) c ∗ owing c (O₀ c) ∗ opX X c ∗ opW W c
    ∗ ∃ f : OutC F, ((c : Thread nD τ).loc cc0_stg2_0) ↦{fullShare} f)

/-- After the body: the buffers with some contents, every semaphore at zero, nothing owed, the operands as they were and
    the computed block of the result. -/
def bodyEnd (c : Dev nD) : sProp 𝕄 :=
  iprop(bufs (F := F) c ∗ (bigSep Finset.univ fun k : KI => semVal (kcell (c, k)) 0) ∗ owing c 0 ∗ opX X c ∗ opW W c
    ∗ (((c : Thread nD τ).loc cc0_stg2_0) ↦{fullShare} outAt X W c))

set_option maxHeartbeats 1000000 in
/-- The body of device `c`. -/
theorem run_body (c : Dev nD) (Kt : PUnit → sProp 𝕄) :
    iprop(bodyStart X W K c ∗ (bodyEnd X W c -∗ Kt ⟨⟩)) ⊢ run c bodyP Kt := by
  refine BIBase.Entails.trans ?_ (wp_fupd _ _ _ _ _)
  unfold bodyStart payToks barToks atAll creds bodyP restP
  simp only [Prog.lift, Prog.bind_op, Prog.bind_ret, wp_deviceId, wp_bind]
  rw [sumKI, sumX]
  iintro ⟨⟨#HB, ⟨HatB, HatS, HatR⟩, ⟨HtB, HtX⟩, ⟨HcB, HcR⟩, Hbuf, HO, HX, HW, ⟨%fo, Ho⟩⟩, Hk⟩
  ihave Hbuf := (bufs_split c) $$ Hbuf
  icases Hbuf with ⟨⟨Hs0, Hs1⟩, HbP⟩
  unfold owing
  icases HO with ⟨%V, HO⟩
  ihave Hr := (recvs_intro c) $$ [HcR HatR]
  · isplitl [HcR]; · iexact HcR
    iexact HatR
  icases Hr with ⟨Hr0, Hr1, Hr2⟩
  ihave HatS := (Entails.of_eq (sumHP fun hp => atPos ER (kcell (c, some (false, hp))) 0 ∅ 0)) $$ HatS
  icases HatS with ⟨Hat0, Hat1, Hat2⟩
  -- the meeting
  iapply (run_meet X W K c V)
  isplitr; · iexact HB
  isplitl [HtB]; · iexact HtB
  isplitl [HbP]; · iexact HbP
  isplitl [HcB]; · iexact HcB
  isplitl [HatB]; · iexact HatB
  isplitl [HO]; · iexact HO
  iintro HatB Hland HO
  ihave Hsl := (slots_intro c) $$ [HtX Hland]
  · isplitl [HtX]; · iexact HtX
    iexact Hland
  icases Hsl with ⟨Hsl0, Hsl1, Hsl2⟩
  -- the first slots
  iapply (run_ldX X c)
  isplitl [HX]; · iexact HX
  iintro HX
  iapply (run_ldWL W c)
  isplitl [HW]; · iexact HW
  iintro HW
  iapply (run_fill c false)
  isplitl [Hs0]; · iexact Hs0
  iintro Hs0
  iapply (run_ldX X c)
  isplitl [HX]; · iexact HX
  iintro HX
  iapply (run_ldWR W c)
  isplitl [HW]; · iexact HW
  iintro HW
  iapply (run_fill c true)
  isplitl [Hs1]; · iexact Hs1
  iintro Hs1
  ihave Hs := (Entails.of_eq ((sum2 fun d => bigSep Finset.univ fun j => blkIs c d 0 j (cut j (start X W d c))).symm.trans
    (sumDir fun d j => blkIs c d 0 j (cut j (start X W d c))))) $$ [Hs0 Hs1]
  · isplitl [Hs0]; · iexact Hs0
    iexact Hs1
  -- the first hop
  iapply (loop_send X W K c (OL c 1 pieces (OL c 2 pieces 0)))
  isplitr; · iexact HB
  isplitl [HO]; · unfold owing; iexists _; iexact HO
  isplitl [Hs Hsl0]
  · iapply (Entails.of_eq (listSep (fun p => blkIs c p.2 0 p.1 (sent X W 0 p c)) (slotTok c 0)).symm)
    isplitl [Hs]; · iexact Hs
    iexact Hsl0
  iintro Hc0 HO
  -- the second
  iapply (run_ldX X c)
  isplitl [HX]; · iexact HX
  iintro HX
  iapply (run_ldW W c)
  isplitl [HW]; · iexact HW
  iintro HW
  iapply (loop_acc X W K c 0 1 (by decide) rfl _ (fun p => rfl) (OL c 2 pieces 0) (above_OL c 2 (by decide) (above_zero _) _))
  isplitr; · iexact HB
  isplitl [HO]; · iexact HO
  isplitl [Hr0 Hsl1]
  · iapply (Entails.of_eq (listSep (recvTok c 0) (slotTok c 1)).symm)
    isplitl [Hr0]; · iexact Hr0
    iexact Hsl1
  iintro Hdc HO
  ihave Hdc := (Entails.of_eq (listSep (fun p => done (F := F) c (true, 0, p)) (sentTok c 1))) $$ Hdc
  icases Hdc with ⟨Hd0, Hc1⟩
  -- the third
  iapply (run_ldX X c)
  isplitl [HX]; · iexact HX
  iintro HX
  iapply (run_ldWL W c)
  isplitl [HW]; · iexact HW
  iintro HW
  iapply (run_ldX X c)
  isplitl [HX]; · iexact HX
  iintro HX
  iapply (run_ldWR W c)
  isplitl [HW]; · iexact HW
  iintro HW
  iapply (loop_acc X W K c 1 2 (by decide) rfl _ (fun p => rfl) 0 (above_zero _))
  isplitr; · iexact HB
  isplitl [HO]; · iexact HO
  isplitl [Hr1 Hsl2]
  · iapply (Entails.of_eq (listSep (recvTok c 1) (slotTok c 2)).symm)
    isplitl [Hr1]; · iexact Hr1
    iexact Hsl2
  iintro Hdc HO
  ihave Hdc := (Entails.of_eq (listSep (fun p => done (F := F) c (true, 1, p)) (sentTok c 2))) $$ Hdc
  icases Hdc with ⟨Hd1, Hc2⟩
  -- the result
  iapply (run_ldX X c)
  isplitl [HX]; · iexact HX
  iintro HX
  iapply (run_ldW W c)
  isplitl [HW]; · iexact HW
  iintro HW
  iapply (loop_out X W K c _ (res X W c) (fun p => rfl))
  isplitr; · iexact HB
  isplitl [HO Ho]
  · isplitl [HO]; · iexact HO
    unfold outPart
    iexists fo
    isplitr
    · ipureintro
      intro p hp
      exact absurd (List.mem_toFinset.mp (pieces_univ ▸ Finset.mem_univ p)) hp
    · iexact Ho
  isplitl [Hr2]; · iexact Hr2
  iintro Hdb ⟨HO, Ho⟩
  ihave Hdb := (Entails.of_eq (listSep (fun p => done (F := F) c (true, 2, p)) (fun p => blkAny (F := F) c p.2 3 p.1))) $$ Hdb
  icases Hdb with ⟨Hd2, Hb3⟩
  -- the departures
  iapply (loop_sendW X W K c 0)
  isplitr; · iexact HB
  isplitl [HO]; · iexact HO
  isplitl [Hc0 Hat0]
  · iapply (Entails.of_eq (listSep (sentTok c 0) (fun p => atPos ER (kcell (c, some (false, 0, p))) 0 ∅ 0)).symm)
    isplitl [Hc0]; · iexact Hc0
    iexact Hat0
  iintro Hdb HO
  ihave Hdb := (Entails.of_eq (listSep (fun p => done (F := F) c (false, 0, p)) (fun p => blkAny (F := F) c p.2 (Fin.castSucc (0 : Fin 3)) p.1))) $$ Hdb
  icases Hdb with ⟨He0, Hb0⟩
  iapply (loop_sendW X W K c 1)
  isplitr; · iexact HB
  isplitl [HO]; · iexact HO
  isplitl [Hc1 Hat1]
  · iapply (Entails.of_eq (listSep (sentTok c 1) (fun p => atPos ER (kcell (c, some (false, 1, p))) 0 ∅ 0)).symm)
    isplitl [Hc1]; · iexact Hc1
    iexact Hat1
  iintro Hdb HO
  ihave Hdb := (Entails.of_eq (listSep (fun p => done (F := F) c (false, 1, p)) (fun p => blkAny (F := F) c p.2 (Fin.castSucc (1 : Fin 3)) p.1))) $$ Hdb
  icases Hdb with ⟨He1, Hb1⟩
  iapply (loop_sendW X W K c 2)
  isplitr; · iexact HB
  isplitl [HO]; · iexact HO
  isplitl [Hc2 Hat2]
  · iapply (Entails.of_eq (listSep (sentTok c 2) (fun p => atPos ER (kcell (c, some (false, 2, p))) 0 ∅ 0)).symm)
    isplitl [Hc2]; · iexact Hc2
    iexact Hat2
  iintro Hdb HO
  ihave Hdb := (Entails.of_eq (listSep (fun p => done (F := F) c (false, 2, p)) (fun p => blkAny (F := F) c p.2 (Fin.castSucc (2 : Fin 3)) p.1))) $$ Hdb
  icases Hdb with ⟨He2, Hb2⟩
  -- the cells close
  unfold base
  icases HB with ⟨#HR, -⟩
  imod (close_all X W K c) $$ [HatB Hd0 Hd1 Hd2 He0 He1 He2] with Hz
  · isplitr; · iexact HR
    unfold atAll
    rw [sumKI, sumX, sumHP, sumHP]
    isplitl [HatB]; · iexact HatB
    isplitl [He0 He1 He2]
    · isplitl [He0]; · iexact He0
      isplitl [He1]; · iexact He1
      iexact He2
    · isplitl [Hd0]; · iexact Hd0
      isplitl [Hd1]; · iexact Hd1
      iexact Hd2
  imodintro
  iapply Hk
  unfold bodyEnd
  isplitl [Hb0 Hb1 Hb2 Hb3]
  · iapply (bufs_join c)
    rw [sum4, sum3]
    unfold slotAny
    rw [show Fin.succ (0 : Fin 3) = Fin.castSucc (1 : Fin 3) from rfl, show Fin.succ (1 : Fin 3) = Fin.castSucc (2 : Fin 3) from rfl,
      show Fin.succ (2 : Fin 3) = (3 : Fin 4) from rfl]
    isplitl [Hb0]; · iexact Hb0
    isplitl [Hb1]; · iexact Hb1
    isplitl [Hb2]; · iexact Hb2
    iexact Hb3
  isplitl [Hz]; · iexact Hz
  isplitl [HO]; · iexact HO
  isplitl [HX]; · iexact HX
  isplitl [HW]; · iexact HW
  unfold outPart
  icases Ho with ⟨%f, %hf, Ho⟩
  rw [show f = outAt X W c from eq_joined f (res X W c) fun p => hf p (List.not_mem_nil)]
  iexact Ho

end Cert.KernelIdeal.Walk

end
-- ==== Proof.Ideal.Tokens.lean ====
/-
What the launch deals out: the invariants of all semaphores, each device's rounds, the duties it pays and the credit
that it waits with.
-/
module

public import proofs.«01_k».proof.Proof.Ideal.Loops

@[expose] public section

noncomputable section

namespace Cert.KernelIdeal.Walk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → XC F) (W : Dev nD → WC F)

/-! ## Rounds and duties at the start -/

theorem ownSemFacts : Pipeline.OwnSemFacts cfg0.spec osem where
  isScoped := by decide
  inj a b h := Option.some.inj (congrArg Prod.snd (kcell_injective (a₁ := ((0 : Dev nD), some a)) (a₂ := ((0 : Dev nD), some b)) (congrArg (Prod.mk ((0 : Dev nD) : Thread nD τ)) h)))
  disj := by decide

def ringCells : Finset (GSem nD τ sig) := Finset.univ.map ⟨kcell, kcell_injective⟩

/-- The duties at a device's own semaphores: two at the meeting's, one at each transfer's. -/
abbrev tokOf (cj : Dev nD × (Bool ⊕ XI)) : GSem nD τ sig × ℕ × Bool := match cj.2 with
  | .inl d => (kcell (cj.1, none), 0, d)
  | .inr x => (kcell (cj.1, some x), 0, false)
theorem tokOf_injective : Function.Injective tokOf := by
  rintro ⟨c, j⟩ ⟨c', j'⟩ h
  have h1 := congrArg (fun x : GSem nD τ sig × ℕ × Bool => x.1) h
  have h2 := congrArg (fun x : GSem nD τ sig × ℕ × Bool => x.2.2) h
  cases j with
  | inl d => cases j' with
    | inl d' => exact Prod.ext (congrArg (fun k : Dev nD × KI => k.1) (kcell_injective h1)) (congrArg Sum.inl h2)
    | inr x => exact absurd (congrArg Prod.snd (kcell_injective h1)) (fun e => Option.some_ne_none x e.symm)
  | inr x => cases j' with
    | inl d' => exact absurd (congrArg Prod.snd (kcell_injective h1)) (Option.some_ne_none x)
    | inr x' => exact Prod.ext (congrArg (fun k : Dev nD × KI => k.1) (kcell_injective h1)) (congrArg Sum.inr (Option.some.inj (congrArg Prod.snd (kcell_injective h1))))
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The duties at device `c`'s own semaphores. -/
def toks (c : Dev nD) : sProp 𝕄 :=
  iprop((bigSep Finset.univ fun d : Bool => dutyTok ER (kcell (c, none)) 0 d) ∗ bigSep Finset.univ fun x : XI => dutyTok ER (kcell (c, some x)) 0 false)

/-- What each device is dealt before the invariants are made. -/
def G (c : Dev nD) : sProp 𝕄 :=
  iprop((bigSep Finset.univ fun k : KI => roundState ER (ringRd X W) (kcell (c, k)) 0)
    ∗ (bigSep Finset.univ fun k : KI => iprop(atPos ER (kcell (c, k)) 0 ∅ 0 ∗ reached ER (kcell (c, k)) 0)) ∗ toks c)

/-- And after. -/
def G' (c : Dev nD) : sProp 𝕄 := iprop(∃ K, records X W K ∗ atAll c 0 ∗ payToks c)

theorem fund_ring : BI.own (ER (initOf ringCells ringToks)) ⊢ (|==> bigSep Finset.univ (G X W) : sProp 𝕄) := by
  have hX (Φ : GSem nD τ sig → sProp 𝕄) : bigSep ringCells Φ = bigSep Finset.univ fun c : Dev nD => bigSep Finset.univ fun k : KI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum]; rfl
  iintro HX
  imod (Rounds.fund ER (ringRd X W) ringCells ringToks) $$ HX with ⟨Hst, Hr, Hat, Htok⟩
  imodintro
  ihave Hst' := (Entails.of_eq (hX fun g => roundState ER (ringRd X W) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero -/

omit [FloatOps F] in
theorem unscopedSems0_eq (c : Dev nD) : (unscopedSems0 c : sProp 𝕄) = semVal (kcell (c, none)) 0 := by
  unfold unscopedSems0; rw [bigSep_eq_bigSepL_of_eq [SemLoc.reg barS] (by decide) (by decide)]; rfl

theorem sems0_eq (c : Dev nD) :
    iprop(unscopedSems0 c ∗ Pipeline.ownSems0 (Ix := Unit) (Name := ℕ) (U := UU) (Lvl := ℕ) (Val := Elt F) (τ := τ) osem c)
      = (bigSep Finset.univ fun k : KI => semVal (kcell (c, k)) 0 : sProp 𝕄) := by
  rw [sumKI, unscopedSems0_eq]; rfl

theorem core_alloc (c : Dev nD) :
    iprop(Pipeline.ownSems0 (Ix := Unit) (Name := ℕ) (U := UU) (Lvl := ℕ) (Val := Elt F) (τ := τ) osem c ∗ unscopedSems0 c ∗ G X W c)
      ⊢ |={Set.univ}=> iprop((bigSep Finset.univ fun k : KI => iprop(∃ κ : ℕ, cellInv ER (ringRd X W) κ (kcell (c, k))))
          ∗ (bigSep Finset.univ fun k : KI => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c)) $$ [Hos Hus]
  · isplitl [Hus] <;> iassumption
  imod (show iprop((bigSep Finset.univ fun k : KI => semVal (kcell (c, k)) 0) ∗ bigSep Finset.univ fun k : KI => roundState ER (ringRd X W) (kcell (c, k)) 0)
      ⊢ (|={Set.univ}=> bigSep Finset.univ fun k : KI => iprop(∃ κ : ℕ, cellInv ER (ringRd X W) κ (kcell (c, k))) : sProp 𝕄) from by
        rw [← bigSep_sep']
        exact (bigSep_mono fun k _ => (Rounds.body_intro ER (ringRd X W) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The duties go to those who pay them -/

/-- The neighbour a transfer comes from and the one it goes to, as inverse maps. -/
def frmE (d : Bool) : Dev nD ≃ Dev nD := ⟨frm d, tgt d, fun c => tgt_frm d c, fun c => frm_tgt d c⟩

theorem toks_around : (bigSep Finset.univ fun c : Dev nD => (toks c : sProp 𝕄)) ⊢ bigSep Finset.univ fun c : Dev nD => payToks c := by
  have hbar : (bigSep Finset.univ fun c : Dev nD => bigSep Finset.univ fun d : Bool => (dutyTok ER (kcell (c, none)) 0 d : sProp 𝕄))
      = bigSep Finset.univ fun c : Dev nD => barToks c := by
    rw [bigSep_univ_comm, sum2, bigSep_univ_equiv (frmE false) (fun c : Dev nD => (dutyTok ER (kcell (c, none)) 0 false : sProp 𝕄)),
      bigSep_univ_equiv (frmE true) (fun c : Dev nD => (dutyTok ER (kcell (c, none)) 0 true : sProp 𝕄)), ← bigSep_sep']
    rfl
  have hrecv : (bigSep Finset.univ fun c : Dev nD => bigSep Finset.univ fun hp : Fin 3 × Piece => (dutyTok ER (kcell (c, some (true, hp))) 0 false : sProp 𝕄))
      = bigSep Finset.univ fun c : Dev nD => bigSep Finset.univ fun hp : Fin 3 × Piece => dutyTok ER (kcell (tgt hp.2.2 c, some (true, hp))) 0 false := by
    rw [bigSep_univ_comm, bigSep_univ_comm (α := Dev nD)]
    exact bigSep_congr fun hp _ => bigSep_univ_equiv (frmE hp.2.2).symm (fun c : Dev nD => (dutyTok ER (kcell (c, some (true, hp))) 0 false : sProp 𝕄))
  unfold toks payToks xferToks
  rw [bigSep_sep', bigSep_sep', hbar]
  refine sep_mono_right (Entails.of_eq ?_)
  rw [bigSep_congr fun (c : Dev nD) _ => sumX fun x : XI => (dutyTok ER (kcell (c, some x)) 0 false : sProp 𝕄), bigSep_sep', hrecv, ← bigSep_sep']
  exact bigSep_congr fun c _ => (bigSep_sep' _ _ _).symm

theorem regroup :
    (bigSep Finset.univ fun c : Dev nD => iprop((bigSep Finset.univ fun k : KI => iprop(∃ κ : ℕ, cellInv ER (ringRd X W) κ (kcell (c, k))))
          ∗ (bigSep Finset.univ fun k : KI => iprop(atPos ER (kcell (c, k)) 0 ∅ 0 ∗ reached ER (kcell (c, k)) 0)) ∗ toks c) : sProp 𝕄)
      ⊢ bigSep Finset.univ (G' X W) := by
  rw [bigSep_sep', bigSep_sep', ← bigSep_univ_prod (fun ck : Dev nD × KI => iprop(∃ κ : ℕ, cellInv ER (ringRd X W) κ (kcell ck))),
    bigSep_congr (s := Finset.univ) (fun (c : Dev nD) _ => bigSep_sep' Finset.univ (fun k : KI => (atPos ER (kcell (c, k)) 0 ∅ 0 : sProp 𝕄)) (fun k => reached ER (kcell (c, k)) 0)),
    bigSep_sep', ← bigSep_univ_prod (fun ck : Dev nD × KI => (reached ER (kcell ck) 0 : sProp 𝕄))]
  iintro ⟨HI, ⟨Hat, #HR⟩, Htok⟩
  ihave HK := (BI.bigSep_exists_pi Finset.univ (fun (ck : Dev nD × KI) (κ : ℕ) => (cellInv ER (ringRd X W) κ (kcell ck) : sProp 𝕄))) $$ HI
  icases HK with ⟨%K, #HI⟩
  ihave Htk := (toks_around (F := F)) $$ Htok
  iapply (bigSep_with_persistent (R := records X W K) (Φ := fun c : Dev nD => iprop(atAll (F := F) c 0 ∗ payToks c)) fun c _ =>
    show iprop(records X W K ∗ (atAll c 0 ∗ payToks c)) ⊢ G' X W c from by
      unfold G'
      iintro ⟨#HR, H⟩
      iexists K
      isplitr; · iexact HR
      iexact H)
  isplitr
  · unfold records; isplitl; · iexact HI
    iexact HR
  · rw [bigSep_sep']
    isplitl [Hat]; · unfold atAll; iexact Hat
    iexact Htk

/-- All devices' semaphores, at once, become invariants. -/
theorem glob : (bigSep Finset.univ fun c => iprop(Pipeline.ownSems0 (Ix := Unit) (Name := ℕ) (U := UU) (Lvl := ℕ) (Val := Elt F) (τ := τ) osem c ∗ unscopedSems0 c ∗ G X W c) : sProp 𝕄)
    ⊢ |={Set.univ}=> bigSep Finset.univ (G' X W) :=
  ((bigSep_mono fun c _ => core_alloc X W c).trans (bigSep_fupd _ _)).trans (BI.fupd_mono (regroup X W))

/-! ## The credit at the start -/

theorem tally_at (ck ck' : Dev nD × KI) (n : ℕ) : (tallyAt (kcell ck) () n : CellTallies nD τ sig Unit) (kcell ck') () = if ck' = ck then n else 0 := by
  rw [tallyAt_apply]
  by_cases h : ck' = ck
  · rw [if_pos h, if_pos ⟨congrArg kcell h, rfl⟩]
  · rw [if_neg h, if_neg fun e => h (kcell_injective e.1)]

/-- Cells that no receiver's semaphore of the list is at are owed what they were. -/
theorem OL_other (d : Dev nD) (h : Fin 3) (O : CellTallies nD τ sig Unit) (ck : Dev nD × KI) :
    ∀ l : List Piece, (∀ p ∈ l, ck ≠ (tgt p.2 d, some (true, h, p))) → OL d h l O (kcell ck) () = O (kcell ck) ()
  | [], _ => rfl
  | p :: l, hl => by
    show (OL d h l O + _) (kcell ck) () = _
    rw [Pi.add_apply, Finsupp.add_apply, tally_at, if_neg (hl p (List.mem_cons_self ..)), Nat.add_zero]
    exact OL_other d h O ck l fun q hq => hl q (List.mem_cons_of_mem _ hq)

/-- A piece of the list is owed one block more. -/
theorem OL_one (d : Dev nD) (h : Fin 3) (O : CellTallies nD τ sig Unit) (p : Piece) :
    ∀ l : List Piece, l.Nodup → p ∈ l → OL d h l O (kcell (tgt p.2 d, some (true, h, p))) () = O (kcell (tgt p.2 d, some (true, h, p))) () + N
  | q :: l, hn, hm => by
    show (OL d h l O + _) (kcell _) () = _
    rw [Pi.add_apply, Finsupp.add_apply, tally_at]
    by_cases e : p = q
    · subst e
      rw [if_pos rfl, OL_other d h O _ l fun q hq he => ?_]
      have : p = q := congrArg (fun k : XI => k.2.2) (Option.some.inj (congrArg Prod.snd he))
      subst this
      exact (List.nodup_cons.mp hn).1 hq
    · rw [if_neg fun he => e (congrArg (fun k : XI => k.2.2) (Option.some.inj (congrArg Prod.snd he))), Nat.add_zero]
      exact OL_one d h O p l (List.nodup_cons.mp hn).2 ((List.mem_cons.mp hm).resolve_left e)

theorem OL_at (d c : Dev nD) (h h' : Fin 3) (p : Piece) (O : CellTallies nD τ sig Unit) :
    OL d h pieces O (kcell (c, some (true, h', p))) () = O (kcell (c, some (true, h', p))) () + if h' = h ∧ c = tgt p.2 d then N else 0 := by
  by_cases e : h' = h ∧ c = tgt p.2 d
  · rw [if_pos e, e.1, e.2]
    exact OL_one d h O p pieces pieces_nodup (by have := Finset.mem_univ p; rw [pieces_univ] at this; exact List.mem_toFinset.mp this)
  · rw [if_neg e, Nat.add_zero]
    refine OL_other d h O _ _ fun q _ he => e ?_
    have h2 := Option.some.inj (congrArg Prod.snd he)
    have hp : p = q := congrArg (fun k : XI => k.2.2) h2
    exact ⟨congrArg (fun k : XI => k.2.1) h2, hp ▸ congrArg Prod.fst he⟩

theorem eq_tgt (k : Bool) (c d : Dev nD) : (c = tgt k d) = (d = frm k c) :=
  propext ⟨fun h => by rw [h, frm_tgt], fun h => by rw [h, tgt_frm]⟩
theorem eq_frm (k : Bool) (c d : Dev nD) : (c = frm k d) = (d = tgt k c) := (eq_tgt k d c).symm

theorem owed_bar (d c : Dev nD) : O₀ d (kcell (c, none)) () = (if d = tgt true c then 1 else 0) + (if d = tgt false c then 1 else 0) := by
  have hne (h : Fin 3) : ∀ p ∈ pieces, ((c, none) : Dev nD × KI) ≠ (tgt p.2 d, some (true, h, p)) :=
    fun p _ he => Option.some_ne_none _ (congrArg Prod.snd he).symm
  have hpair (k : Bool) : (((c, none) : Dev nD × KI) = (frm k d, none)) = (d = tgt k c) :=
    propext ⟨fun e => by rw [← eq_frm]; exact congrArg Prod.fst e, fun e => by rw [← eq_frm] at e; rw [e]⟩
  unfold O₀ O₁ O₂
  rw [Pi.add_apply, Finsupp.add_apply, Pi.add_apply, Finsupp.add_apply, tally_at, tally_at, OL_other _ _ _ _ _ (hne 0), OL_other _ _ _ _ _ (hne 1),
    OL_other _ _ _ _ _ (hne 2), Pi.zero_apply, Finsupp.zero_apply, Nat.zero_add]
  simp only [hpair]

theorem owed_recv (d c : Dev nD) (h : Fin 3) (p : Piece) : O₀ d (kcell (c, some (true, h, p))) () = if d = frm p.2 c then N else 0 := by
  have hne (k : Bool) : ((c, some (true, h, p)) : Dev nD × KI) ≠ (frm k d, none) := fun he => Option.some_ne_none _ (congrArg Prod.snd he)
  unfold O₀ O₁ O₂
  rw [Pi.add_apply, Finsupp.add_apply, Pi.add_apply, Finsupp.add_apply, tally_at, tally_at, if_neg (hne true), if_neg (hne false), OL_at, OL_at, OL_at,
    Pi.zero_apply, Finsupp.zero_apply]
  simp only [eq_tgt]
  by_cases e : d = frm p.2 c
  · simp only [e, and_true]; fin_cases h <;> simp
  · simp only [e, and_false, if_false]

theorem credit_bar (c : Dev nD) :
    tallyOn (kcell (c, none)) (launchCredit (Pipeline.owing O₀) 0 (kcell (c, none))) = (tallyAt (kcell (c, none)) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (tgt true c) fun _ => 1, Finset.sum_ite_eq' Finset.univ (tgt false c) fun _ => 1, if_pos (Finset.mem_univ _), if_pos (Finset.mem_univ _)]

theorem credit_recv (c : Dev nD) (hp : Fin 3 × Piece) :
    tallyOn (kcell (c, some (true, hp))) (launchCredit (Pipeline.owing O₀) 0 (kcell (c, some (true, hp))))
      = (tallyAt (kcell (c, some (true, hp))) () N : CellTallies nD τ sig Unit) := by
  unfold tallyAt; refine congrArg _ (Finsupp.ext fun u => ?_); cases u
  rw [Pipeline.launchCredit_owing, Finsupp.single_eq_same, Finset.sum_congr rfl fun d _ => owed_recv d c hp.1 hp.2,
    Finset.sum_ite_eq' Finset.univ (frm hp.2.2 c) fun _ => N, if_pos (Finset.mem_univ _)]

theorem csem_injective : Function.Injective csem := fun a b h =>
  congrArg Prod.snd (kcell_injective (a₁ := ((0 : Dev nD), a)) (a₂ := ((0 : Dev nD), b)) (congrArg (Prod.mk ((0 : Dev nD) : Thread nD τ)) h))

theorem creds_intro (c : Dev nD) : (Pipeline.launchCred O₀ c : sProp 𝕄) ⊢ creds c := by
  unfold Pipeline.launchCred creds
  refine BIBase.Entails.trans (bigSep_subset (t := (Finset.univ : Finset KI).map ⟨csem, csem_injective⟩) (Finset.subset_univ _)) ?_
  rw [bigSep_map, sumKI, sumX]
  refine BIBase.Entails.trans (sep_mono_right Laws.sep_elim_right) ?_
  refine Entails.of_eq (congrArg₂ _ ?_ (bigSep_congr fun hp _ => ?_))
  · rw [← credit_bar]; rfl
  · rw [← credit_recv]; rfl

end Cert.KernelIdeal.Walk

end
-- ==== Proof.Ideal.Launch.lean ====
/-
The run of the whole program: what each device's body is given and leaves, and what every final state holds.
-/
module

public import proofs.«01_k».proof.Proof.Ideal.Tokens
public import proofs.«01_k».proof.Proof.Gen.KernelIdeal.Points
public import Idealize.ShloMosaic.Lib.Pipeline.CollectiveSegs

@[expose] public section

noncomputable section

namespace Cert.KernelIdeal.Walk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## What a body is given and leaves -/

/-- The operands of device `c` as its body finds them. -/
def xstg (c : Dev nD) : XC F := (win0_0.blk (0 : Fin 1)).view.read (Elt F) (m ((c : Thread nD τ).loc main_arg0))
def wstg (c : Dev nD) : WC F := (win0_1.blk (0 : Fin 1)).view.read (Elt F) (m ((c : Thread nD τ).loc main_arg1))

/-- What a device starts from: its part of the protocol, the credit it waits with, the order of the waits; -/
def start₀ (c : Dev nD) : sProp 𝕄 := iprop(G' (xstg m) (wstg m) c ∗ creds c ∗ levAts L lv)
/-- with the communication buffers, what its body is given; -/
def Φ₀ (c : Dev nD) : sProp 𝕄 := iprop(start₀ m c ∗ bufs c)
/-- and what its body leaves: the buffers again, and all its semaphores at zero. -/
def Φ₁ (c : Dev nD) : sProp 𝕄 := iprop(bufs c ∗ bigSep Finset.univ fun k : KI => semVal (kcell (c, k)) 0)

/-- The three arrays before and after the body: the operands keep their contents, the result is the walk's. -/
def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => wstg m c
    | ⟨2, _⟩ => outAt (xstg m) (wstg m) c
  Φ t := match t with
    | ⟨0, _⟩ => Φ₀ m c
    | ⟨_ + 1, _⟩ => Φ₁ c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 3) ∗ Φ (1 : Fin 3) ∗ Φ (2 : Fin 3)) := bigSep_W0 Φ

theorem owns_whole_eq (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

/-- A staged block of device `c` that holds `Y`. -/
abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

def bodyPre (c : Dev nD) : sProp 𝕄 :=
  iprop(Φ₀ m c ∗ (dats m 0 c).owesAt () (t0_0 : Fin cfg0.N).castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))

def bodyPost (c : Dev nD) : sProp 𝕄 :=
  iprop(Φ₁ c ∗ (dats m 0 c).owesAt () (t0_0 : Fin cfg0.N).succ ∗ stg c cc0_stg0_0 (xstg m c) ∗ stg c cc0_stg1_0 (wstg m c)
    ∗ stg c cc0_stg2_0 (outAt (xstg m) (wstg m) c))

/-- The listed body runs from the one to the other. -/
theorem run_at (c : Dev nD) : bodyPre m c ⊢ run c bodyP fun _ => bodyPost m c := by
  unfold bodyPre Φ₀ start₀ G' Dat.owesAt Pipeline.owesWithin
  iintro ⟨⟨⟨⟨%K, #HR, Hat, Htok⟩, Hcr, #Hlev⟩, Hbuf⟩, ⟨%V, %hV, HO⟩, ⟨%d0, %g0, %hg0, HX⟩, ⟨%d1, %g1, %hg1, HW⟩, ⟨%d2, %g2, %hg2, Ho⟩⟩
  have h0 : g0 = xstg m c := by rw [hg0]; unfold Dat.before; rw [if_pos (fetch0_0 t0_0)]; rfl
  have h1 : g1 = wstg m c := by rw [hg1]; unfold Dat.before; rw [if_pos (fetch0_1 t0_0)]; rfl
  subst h0; subst h1
  rw [show (dats m 0 c).owed (t0_0 : Fin cfg0.N).castSucc = O₀ c from rfl]
  iapply (run_body (xstg m) (wstg m) K c fun _ => bodyPost m c)
  isplitr []
  · unfold bodyStart base
    isplitr
    · isplitr; · iexact HR
      iexact Hlev
    isplitl [Hat]; · iexact Hat
    isplitl [Htok]; · iexact Htok
    isplitl [Hcr]; · iexact Hcr
    isplitl [Hbuf]; · iexact Hbuf
    isplitl [HO]; · unfold owing; iexists V; iexact HO
    isplitl [HX]; · unfold opX; iexact HX
    isplitl [HW]; · unfold opW; iexact HW
    iexists g2; iexact Ho
  · unfold bodyEnd bodyPost Φ₁ owing opX opW Dat.owesAt Pipeline.owesWithin
    rw [show (dats m 0 c).owed (t0_0 : Fin cfg0.N).succ = 0 from rfl]
    iintro ⟨Hbuf, Hz, ⟨%V', HO⟩, HX, HW, Ho⟩
    isplitl [Hbuf Hz]
    · isplitl [Hbuf] <;> iassumption
    isplitl [HO]
    · iexists V'
      isplitr; · ipureintro; exact fun _ _ => Or.inl trivial
      iexact HO
    isplitl [HX]
    · iexists _; isplitr; · (ipureintro; rfl)
      iexact HX
    isplitl [HW]
    · iexists _; isplitr; · (ipureintro; rfl)
      iexact HW
    iexists _; isplitr; · (ipureintro; rfl)
    iexact Ho

set_option maxRecDepth 30000 in
/-- The body of device `c`, as the program calls it. -/
theorem body_obligation (c : Dev nD) : BodyObligation (dats (F := F) m 0 c) (defs₀ (F := F)) 𝒱₀ () Set.univ := fun t => by
  rw [fin_N0 t]
  rw [bigSep_W, bigSep_W]
  simp only [owns_whole_eq]
  show bodyPre m c ⊢ wp frame (wpE (defs₀ (F := F)) 𝒱₀ c none) Set.univ
    (cc0_body (F := F) (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      (Memref.whole cc0_scratch1) (Memref.isWhole_whole _) cc0_scratch2 cc0_scratch3 cc0_scratch4 cc0_scratch5) (fun _ => bodyPost m c)
  rw [cc0_body_eq_skeleton, body_eq]
  exact run_at m c

/-! ## The launch -/

theorem share_eq (c : Dev nD) (w : Fin cfg0.W) : (dats m 0 c).share w = fullShare := by unfold Dat.share; split <;> rfl

/-- The launch gives every device what it starts from; -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (xstg m) (wstg m) c)
      ⊢ |={Set.univ}=> iprop(start₀ m c ∗ emp) := by
  iintro ⟨-, Hlev, Hcr, -, HG⟩
  ihave Hc := (creds_intro (F := F) c) $$ Hcr
  imodintro
  unfold start₀
  isplitl
  · isplitl [HG]; · iexact HG
    isplitl [Hc] <;> iassumption
  · iempintro

theorem scoped_bufs (c : Dev nD) : (Pipeline.scopedRest cfg0.spec c : sProp 𝕄) = bufs c :=
  (scopedRest0_eq c).trans (by unfold bufs; rw [sum2]; rfl)

/-- with the scoped buffers that is what the body is given; -/
theorem phi0_intro (c : Dev nD) :
    iprop(start₀ m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scoped_bufs]
  unfold Φ₀
  iintro ⟨Hs, -, Hr⟩
  isplitl [Hs] <;> iassumption

/-- and what the body leaves are the semaphores at zero and the scoped buffers. -/
theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scoped_bufs]
  unfold Φ₁
  rw [← sems0_eq]
  iintro ⟨Hr, Hu, Hs⟩
  isplitl [Hu]; · iexact Hu
  isplitl [Hs] <;> iassumption

/-- Everything a device owes at the start lies above the staging's waits, -/
theorem above_start (c : Dev nD) : Above 0 (O₀ c) := by
  have hc (c' : Dev nD) : Above 0 (tallyAt (kcell (c', none)) () 1) :=
    above_tally _ _ (by rw [L_tc]; exact Finset.mem_singleton_self _) (by rw [lv_bar]; exact Nat.one_pos)
  unfold O₀ O₁ O₂
  exact above_add (above_add (above_OL c 0 (Nat.succ_pos _) (above_OL c 1 (by decide) (above_OL c 2 (by decide) (above_zero 0) _) _) _) (hc _)) (hc _)

/-- so these are allowed. -/
theorem waits (c : Dev nD) : (levAts L lv : sProp 𝕄) ⊢ Pipeline.cellsWaits cfgs (dats m) () 0 c :=
  Pipeline.cellsWaits_intro cfgs (dats m) () 0 c fun w s t =>
    mayWait_above c _ 0 (by fin_cases w <;> fin_cases s <;> exact Nat.le_refl 0) _ (by
      rcases t with ⟨_ | _, ht⟩
      · exact above_start c
      · exact above_zero 0)

/-! ## The run -/

/-- What window `w`'s array holds at the end; -/
def finalA (c : Dev nD) (w : Fin cfg0.W) : Buf (Elt F) ((cfg0.win w).arr.view.loc (c : Thread nD τ)) := (dats m 0 c).arrAt w cfg0.N

/-- a final state in which every array holds that. -/
def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- From any memory with all semaphores at zero, every run of the program ends, and every final state has each device's
    arrays as computed and every semaphore at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (xstg m) (wstg m)) (G' := G' (xstg m) (wstg m)) (u₀ := u₀)
    (hu₀ := by
      unfold u₀
      iintro Hu
      ihave H := (ownU_pair _ _) $$ Hu
      icases H with ⟨HP, HX⟩
      imod (fund_ring (xstg m) (wstg m)) $$ HX with HG
      imodintro
      isplitl [HP] <;> iassumption)
    (hglob := glob (xstg m) (wstg m))
    (hA := fun _ _ => rfl) (hpf := fun _ k => k.elim0)
    (X := start₀ m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands' arrays hold what they held. -/
theorem finalA_x (c : Dev nD) : finalA m c (0 : Fin 3) = m ((c : Thread nD τ).loc main_arg0) := (dats (F := F) m 0 c).arrAt_in (0 : Fin 3) rfl _
theorem finalA_w (c : Dev nD) : finalA m c (1 : Fin 3) = m ((c : Thread nD τ).loc main_arg1) := (dats (F := F) m 0 c).arrAt_in (1 : Fin 3) rfl _

end Cert.KernelIdeal.Walk

end
-- ==== Proof.Ideal.Result.lean ====
/-
What a run of the program leaves: its arguments as they were, and every device's block of the result as the walk
around the ring computes it from all devices' operands.
-/
module

public import proofs.«01_k».proof.Proof.Ideal.Launch
public import Idealize.ShloMosaic.Lib.Pipeline.ValueKit

@[expose] public section

noncomputable section

namespace Cert.KernelIdeal.Walk

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The one point of the grid stages all of each operand, -/
theorem xstg_eq (c : Dev nD) : xstg m c = m ((c : Thread nD τ).loc main_arg0) := by
  funext i
  show m ((c : Thread nD τ).loc main_arg0) _ = _
  refine congrArg (m ((c : Thread nD τ).loc main_arg0)) ?_
  have h0 : win0_0.index (0 : Fin 1) 0 = 0 := rfl
  have h1 : win0_0.index (0 : Fin 1) 1 = 0 := rfl
  funext a
  fin_cases a
  · refine Fin.ext ?_
    blk_simp
    rw [h0, Nat.zero_mul, Nat.zero_add]
  · refine Fin.ext ?_
    blk_simp
    rw [h1, Nat.zero_mul, Nat.zero_add]

theorem wstg_eq (c : Dev nD) : wstg m c = m ((c : Thread nD τ).loc main_arg1) := by
  funext i
  show m ((c : Thread nD τ).loc main_arg1) _ = _
  refine congrArg (m ((c : Thread nD τ).loc main_arg1)) ?_
  have h0 : win0_1.index (0 : Fin 1) 0 = 0 := rfl
  have h1 : win0_1.index (0 : Fin 1) 1 = 0 := rfl
  funext a
  fin_cases a
  · refine Fin.ext ?_
    blk_simp
    rw [h0, Nat.zero_mul, Nat.zero_add]
  · refine Fin.ext ?_
    blk_simp
    rw [h1, Nat.zero_mul, Nat.zero_add]

/-- and writes back all of the result. -/
theorem finalA_out (c : Dev nD) : finalA m c (2 : Fin 3) = (outAt (xstg m) (wstg m) c : S512x2048.Idx → Elt F .f32) := by
  refine (dats m 0 c).arrAt_eq_of_after_last (2 : Fin 3) t0_0 (by decide +kernel) _ fun j => ?_
  blk_simp
  rfl

/-- From any memory with all semaphores at zero, every run of the program ends; then every device's result is the walk's,
    from the operands that all devices started with, the operands are as they were, and every semaphore is at zero. -/
theorem run_result : θ_run defs (onTc (τ := τ) (main (F := F))) ⟨m, fun _ => 0, ρ⟩ (fun r =>
    (∀ c : Dev nD, r.2.mem ((c.tc : Thread nD τ).loc main_v1)
        = (outAt (fun d : Dev nD => m ((d.tc : Thread nD τ).loc main_arg0)) (fun d : Dev nD => m ((d.tc : Thread nD τ).loc main_arg1)) c : S512x2048.Idx → Elt F .f32)
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) := by
  have hx : xstg m = fun d : Dev nD => m ((d.tc : Thread nD τ).loc main_arg0) := funext (xstg_eq m)
  have hw : wstg m = fun d : Dev nD => m ((d.tc : Thread nD τ).loc main_arg1) := funext (wstg_eq m)
  refine (θ_run defs _ _).mono (fun r h => ⟨fun c => ⟨?_, ?_, ?_⟩, h.2⟩) (run_main m ρ)
  · rw [← hx, ← hw]
    exact (h.1 c (2 : Fin 3)).trans (finalA_out m c)
  · exact (h.1 c (0 : Fin 3)).trans (finalA_x m c)
  · exact (h.1 c (1 : Fin 3)).trans (finalA_w m c)

end Cert.KernelIdeal.Walk

end
-- ==== Proof.Ideal.Same.lean ====
/-
The kernel and its ideal program are one program text, at two readings of floats; so what is proved of the one for any
reading of floats holds of the other.
-/
module

public import proofs.«01_k».proof.Proof.Ideal.Result
public import proofs.«01_k».proof.Proof.Gen.Kernel.Launch
public import proofs.«01_k».proof.Proof.Gen.Kernel.Skeleton

@[expose] public section

noncomputable section

namespace Cert.KernelIdeal.Walk

open Idealize.ShloMosaic Idealize.ShloMosaic.TcCoe Idealize.SL.Sem

variable {F : FTy → Type} [FloatOps F]

theorem defs_same : Cert.Kernel.defs (F := F) = Cert.KernelIdeal.defs (F := F) := by chain_rfl
theorem main_same : Cert.Kernel.main (F := F) = Cert.KernelIdeal.main (F := F) := by chain_rfl

variable (m : (ℓ : Loc Cert.Kernel.nD Cert.Kernel.τ Cert.Kernel.sig) → Buf (Elt F) ℓ) (ρ : Dev Cert.Kernel.nD → PrngReg)

/-- From any memory with all semaphores at zero, every run of the kernel ends, its operands are as they were, and every
    semaphore is at zero. -/
theorem kernel_frame : θ_run (Cert.Kernel.defs (F := F)) (onTc (τ := Cert.Kernel.τ) (Cert.Kernel.main (F := F))) ⟨m, fun _ => 0, ρ⟩ (fun r =>
    (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
    ∧ r.2.sem = fun _ => 0) := by
  rw [defs_same, main_same]
  exact (θ_run Cert.KernelIdeal.defs _ _).mono (fun _ h => ⟨fun c => (h.1 c).2, h.2⟩) (run_result (F := F) m ρ)

end Cert.KernelIdeal.Walk

end
-- ==== Proof.lean ====
/-
The five claims about the ring kernel that multiplies two matrices which are cut over four devices: the frames of the
kernel, of its ideal program and of the reference; that the ideal program is the kernel; and that over the extended
reals each device's block of the result is its block of relu(x @ w).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Ideal.Equation
public import proofs.«01_k».proof.Proof.Ideal.Same
public import Idealize.ShloMosaic.Adequacy
public import Idealize.ShloMosaic.Init

@[expose] public section

noncomputable section

namespace Cert.Proof

open Idealize.ShloMosaic Idealize.ShloMosaic.TcCoe Idealize.SL.Sem

/-- The kernel runs to its end without a fault, leaves its operands as they were and every semaphore at zero. -/
theorem frame_kernel : Cert.quiescent_Kernel := fun m ρ _ => Cert.KernelIdeal.Walk.kernel_frame (F := Bits) m ρ

/-- So does the ideal program. -/
theorem frame_ideal : Cert.quiescent_KernelIdeal := fun m ρ _ =>
  (θ_run Cert.KernelIdeal.defs _ _).mono (fun _ h => ⟨fun c => (h.1 c).2, h.2⟩)
    (Cert.KernelIdeal.Walk.run_result (F := Ideal) m ρ)

/-- So does the reference, which has no semaphore at all. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Where the devices hold the blocks of the reference's operands, each device's result is its block of the
    reference's result, over the extended reals. -/
theorem same_function : Cert.algebraic_KernelIdeal_ReferenceIdeal := by
  intro m ρ m' ρ' _ hag
  refine ⟨_, (θ_run Cert.KernelIdeal.defs _ _).mono (fun r h c => ⟨(h.1 c).1.trans ?_, (h.1 c).2⟩)
      (Cert.KernelIdeal.Walk.run_result (F := Ideal) m ρ),
    (θ_run Cert.ReferenceIdeal.defs _ _).mono (fun _ h => h 0) (Cert.ReferenceIdeal.Value.run (F := Ideal) m' ρ')⟩
  exact Cert.KernelIdeal.Walk.outAt_block _ _ _ _ (fun d => (hag d).1) (fun d => (hag d).2) c

/-- All five claims. -/
theorem claim : Cert.Claim := ⟨Cert.Kernel.Gen.facts, Cert.KernelIdeal.Gen.facts, Cert.ReferenceIdeal.Gen.facts,
  frame_kernel, frame_ideal, frame_reference, trivial, same_function⟩

end Cert.Proof

end
